-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S38912x5120 : Shape := ⟨2, ![38912, 5120]⟩
abbrev S5120x5120 : Shape := ⟨2, ![5120, 5120]⟩
abbrev S5120x2560 : Shape := ⟨2, ![5120, 2560]⟩
abbrev S5120x40 : Shape := ⟨2, ![5120, 40]⟩
abbrev S1024x1280 : Shape := ⟨2, ![1024, 1280]⟩
abbrev S1024x2560 : Shape := ⟨2, ![1024, 2560]⟩
abbrev S1280x1280 : Shape := ⟨2, ![1280, 1280]⟩
abbrev S1280x40 : Shape := ⟨2, ![1280, 40]⟩
abbrev S2x1280x2560 : Shape := ⟨3, ![2, 1280, 2560]⟩
abbrev S2 : Shape := ⟨1, ![2]⟩
abbrev S1 : Shape := ⟨1, ![1]⟩
abbrev S_ : Shape := ⟨0, ![]⟩
abbrev S1x1280x2560 : Shape := ⟨3, ![1, 1280, 2560]⟩
abbrev S1280x2560 : Shape := ⟨2, ![1280, 2560]⟩
abbrev S8x128 : Shape := ⟨2, ![8, 128]⟩
abbrev S32x40 : Shape := ⟨2, ![32, 40]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩
abbrev S8x128x1 : Shape := ⟨3, ![8, 128, 1]⟩

abbrev nBuf : Space → Nat
  | .hbm => 6
  | .vmem => 9
  | .smem => 0
  | _ => 0

abbrev bufTy : (tb : Table) → Fin (tcTables nBuf tb) → BufTy
  | .hbm, ⟨0, _⟩ => ⟨S38912x5120, .bf16⟩
  | .hbm, ⟨1, _⟩ => ⟨S38912x5120, .bf16⟩
  | .hbm, ⟨2, _⟩ => ⟨S5120x5120, .f32⟩
  | .hbm, ⟨3, _⟩ => ⟨S5120x2560, .i8⟩
  | .hbm, ⟨4, _⟩ => ⟨S5120x40, .f32⟩
  | .hbm, ⟨5, _⟩ => ⟨S5120x5120, .f32⟩
  | .local _ .vmem, ⟨0, _⟩ => ⟨S1024x1280, .bf16⟩
  | .local _ .vmem, ⟨1, _⟩ => ⟨S1024x1280, .bf16⟩
  | .local _ .vmem, ⟨2, _⟩ => ⟨S1024x2560, .bf16⟩
  | .local _ .vmem, ⟨3, _⟩ => ⟨S1024x2560, .bf16⟩
  | .local _ .vmem, ⟨4, _⟩ => ⟨S1280x1280, .i8⟩
  | .local _ .vmem, ⟨5, _⟩ => ⟨S1280x1280, .i8⟩
  | .local _ .vmem, ⟨6, _⟩ => ⟨S1280x40, .f32⟩
  | .local _ .vmem, ⟨7, _⟩ => ⟨S1280x40, .f32⟩
  | .local _ .vmem, ⟨8, _⟩ => ⟨S2x1280x2560, .f32⟩
  | _, _ => ⟨S38912x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 38], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_1 : BitVec 32 := 0#32
  let v5 : BitVec 1 := Scalar.cmpi .ne v4 c0_i32_1
  v5

def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_11 : BitVec 32 := 0#32
  let v23 : BitVec 1 := Scalar.cmpi .eq v1 c0_i32_11
  let v24 : BitVec 32 := Scalar.extui v23
  let c0_i32_12 : BitVec 32 := 0#32
  let v25 : BitVec 1 := Scalar.cmpi .ne v24 c0_i32_12
  v25

def k0_off1 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_24 : BitVec 32 := 2#32
  let v52 : BitVec 32 := Scalar.remsi v1 c2_i32_24
  ![v52.toNat]
def k0_off2 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_24 : BitVec 32 := 2#32
  let v52 : BitVec 32 := Scalar.remsi v1 c2_i32_24
  let c0_i32_35 : BitVec 32 := 0#32
  let c0_i32_36 : BitVec 32 := 0#32
  ![v52.toNat, 0, 0]
def k0_off3 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_26 : BitVec 32 := 0#32
  let v54 : BitVec 1 := Scalar.cmpi .sgt v1 c0_i32_26
  let v55 : BitVec 32 := Scalar.extui v54
  let c0_i32_27 : BitVec 32 := 0#32
  let v56 : BitVec 1 := Scalar.cmpi .slt v1 c0_i32_27
  let v57 : BitVec 32 := Scalar.extui v56
  let v58 : BitVec 32 := Scalar.subi v55 v57
  let c2_i32_25 : BitVec 32 := 2#32
  let c0_i32_28 : BitVec 32 := 0#32
  let v59 : BitVec 1 := Scalar.cmpi .sgt c2_i32_25 c0_i32_28
  let v60 : BitVec 32 := Scalar.extui v59
  let c0_i32_29 : BitVec 32 := 0#32
  let v61 : BitVec 1 := Scalar.cmpi .slt c2_i32_25 c0_i32_29
  let v62 : BitVec 32 := Scalar.extui v61
  let v63 : BitVec 32 := Scalar.subi v60 v62
  let v64 : BitVec 1 := Scalar.cmpi .ne v58 v63
  let v65 : BitVec 32 := Scalar.remsi v1 c2_i32_25
  let c0_i32_30 : BitVec 32 := 0#32
  let v66 : BitVec 1 := Scalar.cmpi .ne v65 c0_i32_30
  let v67 : BitVec 1 := Scalar.andi v64 v66
  let v53 : BitVec 32 := Scalar.divsi v1 c2_i32_25
  let c1_i32_31 : BitVec 32 := 1#32
  let v68 : BitVec 32 := Scalar.subi v53 c1_i32_31
  let v69 : BitVec 32 := Scalar.select v67 v68 v53
  let c1280_i32_32 : BitVec 32 := 1280#32
  let v70 : BitVec 32 := Scalar.muli v69 c1280_i32_32
  let c2_i32_33 : BitVec 32 := 2#32
  let v71 : BitVec 32 := Scalar.remsi v1 c2_i32_33
  let c2560_i32_34 : BitVec 32 := 2560#32
  let v72 : BitVec 32 := Scalar.muli v71 c2560_i32_34
  ![v70.toNat, v72.toNat]
def k0_off4 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_13 : BitVec 32 := 2#32
  let v26 : BitVec 32 := Scalar.remsi v1 c2_i32_13
  ![v26.toNat]
def k0_off5 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_13 : BitVec 32 := 2#32
  let v26 : BitVec 32 := Scalar.remsi v1 c2_i32_13
  let c0_i32_22 : BitVec 32 := 0#32
  let c0_i32_23 : BitVec 32 := 0#32
  ![v26.toNat, 0, 0]
def k0_off6 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_15 : BitVec 32 := 0#32
  let v28 : BitVec 1 := Scalar.cmpi .sgt v1 c0_i32_15
  let v29 : BitVec 32 := Scalar.extui v28
  let c0_i32_16 : BitVec 32 := 0#32
  let v30 : BitVec 1 := Scalar.cmpi .slt v1 c0_i32_16
  let v31 : BitVec 32 := Scalar.extui v30
  let v32 : BitVec 32 := Scalar.subi v29 v31
  let c2_i32_14 : BitVec 32 := 2#32
  let c0_i32_17 : BitVec 32 := 0#32
  let v33 : BitVec 1 := Scalar.cmpi .sgt c2_i32_14 c0_i32_17
  let v34 : BitVec 32 := Scalar.extui v33
  let c0_i32_18 : BitVec 32 := 0#32
  let v35 : BitVec 1 := Scalar.cmpi .slt c2_i32_14 c0_i32_18
  let v36 : BitVec 32 := Scalar.extui v35
  let v37 : BitVec 32 := Scalar.subi v34 v36
  let v38 : BitVec 1 := Scalar.cmpi .ne v32 v37
  let v39 : BitVec 32 := Scalar.remsi v1 c2_i32_14
  let c0_i32_19 : BitVec 32 := 0#32
  let v40 : BitVec 1 := Scalar.cmpi .ne v39 c0_i32_19
  let v41 : BitVec 1 := Scalar.andi v38 v40
  let v27 : BitVec 32 := Scalar.divsi v1 c2_i32_14
  let c1_i32_20 : BitVec 32 := 1#32
  let v42 : BitVec 32 := Scalar.subi v27 c1_i32_20
  let v43 : BitVec 32 := Scalar.select v41 v42 v27
  let c1280_i32 : BitVec 32 := 1280#32
  let v44 : BitVec 32 := Scalar.muli v43 c1280_i32
  let c2_i32_21 : BitVec 32 := 2#32
  let v45 : BitVec 32 := Scalar.remsi v1 c2_i32_21
  let c2560_i32 : BitVec 32 := 2560#32
  let v46 : BitVec 32 := Scalar.muli v45 c2560_i32
  ![v44.toNat, v46.toNat]
def k0_off7 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v6 : Index := Scalar.indexCast v2
  let c0 : Index := 0#32
  let c0_2 : Index := 0#32
  ![v6.toNat, 0, 0]
def k0_cond3 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_9 : BitVec 32 := 0#32
  let v19 : BitVec 1 := Scalar.cmpi .ne v18 c0_i32_9
  v19

def k0_cond4 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_11 : BitVec 32 := 0#32
  let v23 : BitVec 1 := Scalar.cmpi .sgt v1 c0_i32_11
  let v24 : BitVec 32 := Scalar.extui v23
  let c0_i32_12 : BitVec 32 := 0#32
  let v25 : BitVec 1 := Scalar.cmpi .ne v24 c0_i32_12
  v25

def k0_off8 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_15 : BitVec 32 := 1#32
  let v30 : BitVec 32 := Scalar.subi v1 c1_i32_15
  let c2_i32_16 : BitVec 32 := 2#32
  let v31 : BitVec 32 := Scalar.remsi v30 c2_i32_16
  ![v31.toNat]
def k0_off9 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_15 : BitVec 32 := 1#32
  let v30 : BitVec 32 := Scalar.subi v1 c1_i32_15
  let c0_i32_18 : BitVec 32 := 0#32
  let v33 : BitVec 1 := Scalar.cmpi .sgt v30 c0_i32_18
  let v34 : BitVec 32 := Scalar.extui v33
  let c0_i32_19 : BitVec 32 := 0#32
  let v35 : BitVec 1 := Scalar.cmpi .slt v30 c0_i32_19
  let v36 : BitVec 32 := Scalar.extui v35
  let v37 : BitVec 32 := Scalar.subi v34 v36
  let c2_i32_17 : BitVec 32 := 2#32
  let c0_i32_20 : BitVec 32 := 0#32
  let v38 : BitVec 1 := Scalar.cmpi .sgt c2_i32_17 c0_i32_20
  let v39 : BitVec 32 := Scalar.extui v38
  let c0_i32_21 : BitVec 32 := 0#32
  let v40 : BitVec 1 := Scalar.cmpi .slt c2_i32_17 c0_i32_21
  let v41 : BitVec 32 := Scalar.extui v40
  let v42 : BitVec 32 := Scalar.subi v39 v41
  let v43 : BitVec 1 := Scalar.cmpi .ne v37 v42
  let v44 : BitVec 32 := Scalar.remsi v30 c2_i32_17
  let c0_i32_22 : BitVec 32 := 0#32
  let v45 : BitVec 1 := Scalar.cmpi .ne v44 c0_i32_22
  let v46 : BitVec 1 := Scalar.andi v43 v45
  let v32 : BitVec 32 := Scalar.divsi v30 c2_i32_17
  let c1_i32_23 : BitVec 32 := 1#32
  let v47 : BitVec 32 := Scalar.subi v32 c1_i32_23
  let v48 : BitVec 32 := Scalar.select v46 v47 v32
  let c1280_i32 : BitVec 32 := 1280#32
  let v49 : BitVec 32 := Scalar.muli v48 c1280_i32
  let c2_i32_24 : BitVec 32 := 2#32
  let v50 : BitVec 32 := Scalar.remsi v30 c2_i32_24
  let c2560_i32 : BitVec 32 := 2560#32
  let v51 : BitVec 32 := Scalar.muli v50 c2560_i32
  ![v49.toNat, v51.toNat]
def k0_off10 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_15 : BitVec 32 := 1#32
  let v30 : BitVec 32 := Scalar.subi v1 c1_i32_15
  let c2_i32_16 : BitVec 32 := 2#32
  let v31 : BitVec 32 := Scalar.remsi v30 c2_i32_16
  let c0_i32_25 : BitVec 32 := 0#32
  let c0_i32_26 : BitVec 32 := 0#32
  ![v31.toNat, 0, 0]
def k0_cond5 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_13 : BitVec 32 := 1#32
  let v26 : BitVec 32 := Scalar.addi v1 c1_i32_13
  let c8_i32 : BitVec 32 := 8#32
  let v27 : BitVec 1 := Scalar.cmpi .slt v26 c8_i32
  let v28 : BitVec 32 := Scalar.extui v27
  let c0_i32_14 : BitVec 32 := 0#32
  let v29 : BitVec 1 := Scalar.cmpi .ne v28 c0_i32_14
  v29

def k0_off11 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_15 : BitVec 32 := 1#32
  let v30 : BitVec 32 := Scalar.addi v1 c1_i32_15
  let c2_i32_16 : BitVec 32 := 2#32
  let v31 : BitVec 32 := Scalar.remsi v30 c2_i32_16
  ![v31.toNat]
def k0_off12 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_15 : BitVec 32 := 1#32
  let v30 : BitVec 32 := Scalar.addi v1 c1_i32_15
  let c2_i32_16 : BitVec 32 := 2#32
  let v31 : BitVec 32 := Scalar.remsi v30 c2_i32_16
  let c0_i32_25 : BitVec 32 := 0#32
  let c0_i32_26 : BitVec 32 := 0#32
  ![v31.toNat, 0, 0]
def k0_off13 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32_15 : BitVec 32 := 1#32
  let v30 : BitVec 32 := Scalar.addi v1 c1_i32_15
  let c0_i32_18 : BitVec 32 := 0#32
  let v33 : BitVec 1 := Scalar.cmpi .sgt v30 c0_i32_18
  let v34 : BitVec 32 := Scalar.extui v33
  let c0_i32_19 : BitVec 32 := 0#32
  let v35 : BitVec 1 := Scalar.cmpi .slt v30 c0_i32_19
  let v36 : BitVec 32 := Scalar.extui v35
  let v37 : BitVec 32 := Scalar.subi v34 v36
  let c2_i32_17 : BitVec 32 := 2#32
  let c0_i32_20 : BitVec 32 := 0#32
  let v38 : BitVec 1 := Scalar.cmpi .sgt c2_i32_17 c0_i32_20
  let v39 : BitVec 32 := Scalar.extui v38
  let c0_i32_21 : BitVec 32 := 0#32
  let v40 : BitVec 1 := Scalar.cmpi .slt c2_i32_17 c0_i32_21
  let v41 : BitVec 32 := Scalar.extui v40
  let v42 : BitVec 32 := Scalar.subi v39 v41
  let v43 : BitVec 1 := Scalar.cmpi .ne v37 v42
  let v44 : BitVec 32 := Scalar.remsi v30 c2_i32_17
  let c0_i32_22 : BitVec 32 := 0#32
  let v45 : BitVec 1 := Scalar.cmpi .ne v44 c0_i32_22
  let v46 : BitVec 1 := Scalar.andi v43 v45
  let v32 : BitVec 32 := Scalar.divsi v30 c2_i32_17
  let c1_i32_23 : BitVec 32 := 1#32
  let v47 : BitVec 32 := Scalar.subi v32 c1_i32_23
  let v48 : BitVec 32 := Scalar.select v46 v47 v32
  let c1280_i32 : BitVec 32 := 1280#32
  let v49 : BitVec 32 := Scalar.muli v48 c1280_i32
  let c2_i32_24 : BitVec 32 := 2#32
  let v50 : BitVec 32 := Scalar.remsi v30 c2_i32_24
  let c2560_i32 : BitVec 32 := 2560#32
  let v51 : BitVec 32 := Scalar.muli v50 c2560_i32
  ![v49.toNat, v51.toNat]
def k0_cond6 (i : grid0.Coords) : BitVec 1 :=
  let arg2 : BitVec 32 := BitVec.ofNat 32 (i 2).val
  let c37_i32 : BitVec 32 := 37#32
  let v20 : BitVec 1 := Scalar.cmpi .eq arg2 c37_i32
  let v21 : BitVec 32 := Scalar.extui v20
  let c0_i32_10 : BitVec 32 := 0#32
  let v22 : BitVec 1 := Scalar.cmpi .ne v21 c0_i32_10
  v22

@[reducible] def k0_t1_loop : Scf.Loop 32 :=
  let c0_i32_14 : BitVec 32 := 0#32
  let c40_i32 : BitVec 32 := 40#32
  let v39 : BitVec 32 := Scalar.addi c0_i32_14 c40_i32
  let c1_i32_15 : BitVec 32 := 1#32
  ⟨c0_i32_14, v39, c1_i32_15⟩
def k0_mult1 (k0_t1 : Fin k0_t1_loop.trips) : BitVec 32 :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  v69
def k0_off14 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v71 : Index := Scalar.indexCast v70
  let c0_29 : Index := 0#32
  ![v71.toNat, 0]
def k0_off15 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v74 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v75 : Index := Scalar.indexCast v70
  let c0_30 : Index := 0#32
  ![v74.toNat, v75.toNat, 0]
def k0_off16 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v114 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v115 : Index := Scalar.indexCast v70
  let c128 : Index := 128#32
  ![v114.toNat, v115.toNat, 128]
def k0_off17 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v172 : Index := Scalar.indexCast v70
  let c0_50 : Index := 0#32
  ![v172.toNat, 0]
def k0_off18 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v174 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v175 : Index := Scalar.indexCast v70
  let c256 : Index := 256#32
  ![v174.toNat, v175.toNat, 256]
def k0_off19 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v214 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v215 : Index := Scalar.indexCast v70
  let c384 : Index := 384#32
  ![v214.toNat, v215.toNat, 384]
def k0_off20 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v272 : Index := Scalar.indexCast v70
  let c128_74 : Index := 128#32
  ![v272.toNat, 128]
def k0_off21 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v274 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v275 : Index := Scalar.indexCast v70
  let c512 : Index := 512#32
  ![v274.toNat, v275.toNat, 512]
def k0_off22 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v314 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v315 : Index := Scalar.indexCast v70
  let c640 : Index := 640#32
  ![v314.toNat, v315.toNat, 640]
def k0_off23 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v372 : Index := Scalar.indexCast v70
  let c256_98 : Index := 256#32
  ![v372.toNat, 256]
def k0_off24 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v374 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v375 : Index := Scalar.indexCast v70
  let c768 : Index := 768#32
  ![v374.toNat, v375.toNat, 768]
def k0_off25 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v414 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v415 : Index := Scalar.indexCast v70
  let c896 : Index := 896#32
  ![v414.toNat, v415.toNat, 896]
def k0_off26 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v472 : Index := Scalar.indexCast v70
  let c384_123 : Index := 384#32
  ![v472.toNat, 384]
def k0_off27 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v474 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v475 : Index := Scalar.indexCast v70
  let c1024 : Index := 1024#32
  ![v474.toNat, v475.toNat, 1024]
def k0_off28 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v514 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v515 : Index := Scalar.indexCast v70
  let c1152 : Index := 1152#32
  ![v514.toNat, v515.toNat, 1152]
def k0_off29 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v572 : Index := Scalar.indexCast v70
  let c512_146 : Index := 512#32
  ![v572.toNat, 512]
def k0_off30 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v574 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v575 : Index := Scalar.indexCast v70
  let c1280 : Index := 1280#32
  ![v574.toNat, v575.toNat, 1280]
def k0_off31 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v614 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v615 : Index := Scalar.indexCast v70
  let c1408 : Index := 1408#32
  ![v614.toNat, v615.toNat, 1408]
def k0_off32 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v672 : Index := Scalar.indexCast v70
  let c640_169 : Index := 640#32
  ![v672.toNat, 640]
def k0_off33 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v674 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v675 : Index := Scalar.indexCast v70
  let c1536 : Index := 1536#32
  ![v674.toNat, v675.toNat, 1536]
def k0_off34 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v714 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v715 : Index := Scalar.indexCast v70
  let c1664 : Index := 1664#32
  ![v714.toNat, v715.toNat, 1664]
def k0_off35 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v772 : Index := Scalar.indexCast v70
  let c768_192 : Index := 768#32
  ![v772.toNat, 768]
def k0_off36 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v774 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v775 : Index := Scalar.indexCast v70
  let c1792 : Index := 1792#32
  ![v774.toNat, v775.toNat, 1792]
def k0_off37 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v814 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v815 : Index := Scalar.indexCast v70
  let c1920 : Index := 1920#32
  ![v814.toNat, v815.toNat, 1920]
def k0_off38 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v872 : Index := Scalar.indexCast v70
  let c896_216 : Index := 896#32
  ![v872.toNat, 896]
def k0_off39 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v874 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v875 : Index := Scalar.indexCast v70
  let c2048 : Index := 2048#32
  ![v874.toNat, v875.toNat, 2048]
def k0_off40 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v914 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v915 : Index := Scalar.indexCast v70
  let c2176 : Index := 2176#32
  ![v914.toNat, v915.toNat, 2176]
def k0_off41 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v972 : Index := Scalar.indexCast v70
  let c1024_239 : Index := 1024#32
  ![v972.toNat, 1024]
def k0_off42 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v974 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v975 : Index := Scalar.indexCast v70
  let c2304 : Index := 2304#32
  ![v974.toNat, v975.toNat, 2304]
def k0_off43 (i : grid0.Coords) (k0_t1 : Fin k0_t1_loop.trips) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_0 : BitVec 32 := 2#32
  let v2 : BitVec 32 := Scalar.remsi v1 c2_i32_0
  let v1014 : Index := Scalar.indexCast v2
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v1015 : Index := Scalar.indexCast v70
  let c2432 : Index := 2432#32
  ![v1014.toNat, v1015.toNat, 2432]
def k0_off44 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c32_i32 : BitVec 32 := 32#32
  let v69 : BitVec 32 := Scalar.muli arg12 c32_i32
  let v70 : BitVec 32 := v69
  let v1072 : Index := Scalar.indexCast v70
  let c1152_262 : Index := 1152#32
  ![v1072.toNat, 1152]
def k0_off45 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_17 : BitVec 32 := 2#32
  let v40 : BitVec 32 := Scalar.remsi v1 c2_i32_17
  ![v40.toNat]
def k0_off46 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_19 : BitVec 32 := 0#32
  let v42 : BitVec 1 := Scalar.cmpi .sgt v1 c0_i32_19
  let v43 : BitVec 32 := Scalar.extui v42
  let c0_i32_20 : BitVec 32 := 0#32
  let v44 : BitVec 1 := Scalar.cmpi .slt v1 c0_i32_20
  let v45 : BitVec 32 := Scalar.extui v44
  let v46 : BitVec 32 := Scalar.subi v43 v45
  let c2_i32_18 : BitVec 32 := 2#32
  let c0_i32_21 : BitVec 32 := 0#32
  let v47 : BitVec 1 := Scalar.cmpi .sgt c2_i32_18 c0_i32_21
  let v48 : BitVec 32 := Scalar.extui v47
  let c0_i32_22 : BitVec 32 := 0#32
  let v49 : BitVec 1 := Scalar.cmpi .slt c2_i32_18 c0_i32_22
  let v50 : BitVec 32 := Scalar.extui v49
  let v51 : BitVec 32 := Scalar.subi v48 v50
  let v52 : BitVec 1 := Scalar.cmpi .ne v46 v51
  let v53 : BitVec 32 := Scalar.remsi v1 c2_i32_18
  let c0_i32_23 : BitVec 32 := 0#32
  let v54 : BitVec 1 := Scalar.cmpi .ne v53 c0_i32_23
  let v55 : BitVec 1 := Scalar.andi v52 v54
  let v41 : BitVec 32 := Scalar.divsi v1 c2_i32_18
  let c1_i32_24 : BitVec 32 := 1#32
  let v56 : BitVec 32 := Scalar.subi v41 c1_i32_24
  let v57 : BitVec 32 := Scalar.select v55 v56 v41
  let c1280_i32 : BitVec 32 := 1280#32
  let v58 : BitVec 32 := Scalar.muli v57 c1280_i32
  let c2_i32_25 : BitVec 32 := 2#32
  let v59 : BitVec 32 := Scalar.remsi v1 c2_i32_25
  let c2560_i32 : BitVec 32 := 2560#32
  let v60 : BitVec 32 := Scalar.muli v59 c2560_i32
  ![v58.toNat, v60.toNat]
def k0_off47 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_17 : BitVec 32 := 2#32
  let v40 : BitVec 32 := Scalar.remsi v1 c2_i32_17
  let c0_i32_26 : BitVec 32 := 0#32
  let c0_i32_27 : BitVec 32 := 0#32
  ![v40.toNat, 0, 0]
def k0_cond7 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c7_i32 : BitVec 32 := 7#32
  let v66 : BitVec 1 := Scalar.cmpi .eq v1 c7_i32
  let v67 : BitVec 32 := Scalar.extui v66
  let c0_i32_28 : BitVec 32 := 0#32
  let v68 : BitVec 1 := Scalar.cmpi .ne v67 c0_i32_28
  v68

def k0_off48 (i : grid0.Coords) : Fin 1 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_29 : BitVec 32 := 2#32
  let v69 : BitVec 32 := Scalar.remsi v1 c2_i32_29
  ![v69.toNat]
def k0_off49 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32_31 : BitVec 32 := 0#32
  let v71 : BitVec 1 := Scalar.cmpi .sgt v1 c0_i32_31
  let v72 : BitVec 32 := Scalar.extui v71
  let c0_i32_32 : BitVec 32 := 0#32
  let v73 : BitVec 1 := Scalar.cmpi .slt v1 c0_i32_32
  let v74 : BitVec 32 := Scalar.extui v73
  let v75 : BitVec 32 := Scalar.subi v72 v74
  let c2_i32_30 : BitVec 32 := 2#32
  let c0_i32_33 : BitVec 32 := 0#32
  let v76 : BitVec 1 := Scalar.cmpi .sgt c2_i32_30 c0_i32_33
  let v77 : BitVec 32 := Scalar.extui v76
  let c0_i32_34 : BitVec 32 := 0#32
  let v78 : BitVec 1 := Scalar.cmpi .slt c2_i32_30 c0_i32_34
  let v79 : BitVec 32 := Scalar.extui v78
  let v80 : BitVec 32 := Scalar.subi v77 v79
  let v81 : BitVec 1 := Scalar.cmpi .ne v75 v80
  let v82 : BitVec 32 := Scalar.remsi v1 c2_i32_30
  let c0_i32_35 : BitVec 32 := 0#32
  let v83 : BitVec 1 := Scalar.cmpi .ne v82 c0_i32_35
  let v84 : BitVec 1 := Scalar.andi v81 v83
  let v70 : BitVec 32 := Scalar.divsi v1 c2_i32_30
  let c1_i32_36 : BitVec 32 := 1#32
  let v85 : BitVec 32 := Scalar.subi v70 c1_i32_36
  let v86 : BitVec 32 := Scalar.select v84 v85 v70
  let c1280_i32_37 : BitVec 32 := 1280#32
  let v87 : BitVec 32 := Scalar.muli v86 c1280_i32_37
  let c2_i32_38 : BitVec 32 := 2#32
  let v88 : BitVec 32 := Scalar.remsi v1 c2_i32_38
  let c2560_i32_39 : BitVec 32 := 2560#32
  let v89 : BitVec 32 := Scalar.muli v88 c2560_i32_39
  ![v87.toNat, v89.toNat]
def k0_off50 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_29 : BitVec 32 := 2#32
  let v69 : BitVec 32 := Scalar.remsi v1 c2_i32_29
  let c0_i32_40 : BitVec 32 := 0#32
  let c0_i32_41 : BitVec 32 := 0#32
  ![v69.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1280 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== ReferenceIdeal.lean ====
abbrev S38912x5120 : Shape := ⟨2, ![38912, 5120]⟩
abbrev S5120x5120 : Shape := ⟨2, ![5120, 5120]⟩
abbrev S5120x40x128 : Shape := ⟨3, ![5120, 40, 128]⟩
abbrev S_ : Shape := ⟨0, ![]⟩
abbrev S5120x40 : Shape := ⟨2, ![5120, 40]⟩
abbrev S5120x40x1 : Shape := ⟨3, ![5120, 40, 1]⟩
abbrev S5120x2560 : Shape := ⟨2, ![5120, 2560]⟩
abbrev S5120x2560x1 : Shape := ⟨3, ![5120, 2560, 1]⟩
abbrev S5120x2560x2 : Shape := ⟨3, ![5120, 2560, 2]⟩

abbrev nBuf : Space → Nat
  | .hbm => 74
  | .vmem => 0
  | .smem => 0
  | _ => 0

abbrev bufTy : (tb : Table) → Fin (tcTables nBuf tb) → BufTy
  | .hbm, ⟨0, _⟩ => ⟨S38912x5120, .bf16⟩
  | .hbm, ⟨1, _⟩ => ⟨S38912x5120, .bf16⟩
  | .hbm, ⟨2, _⟩ => ⟨S5120x5120, .f32⟩
  | .hbm, ⟨3, _⟩ => ⟨S5120x5120, .f32⟩
  | .hbm, ⟨4, _⟩ => ⟨S5120x5120, .f32⟩
  | .hbm, ⟨5, _⟩ => ⟨S5120x40x128, .f32⟩
  | .hbm, ⟨6, _⟩ => ⟨S5120x40x128, .f32⟩
  | .hbm, ⟨7, _⟩ => ⟨S_, .f32⟩
  | .hbm, ⟨8, _⟩ => ⟨S5120x40, .f32⟩
  | .hbm, ⟨9, _⟩ => ⟨S_, .f32⟩
  | .hbm, ⟨10, _⟩ => ⟨S5120x40, .f32⟩
  | .hbm, ⟨11, _⟩ => ⟨S5120x40, .i1⟩
  | .hbm, ⟨12, _⟩ => ⟨S_, .f32⟩
  | .hbm, ⟨13, _⟩ => ⟨S5120x40, .f32⟩
  | .hbm, ⟨14, _⟩ => ⟨S5120x40, .f32⟩
  | .hbm, ⟨15, _⟩ => ⟨S_, .f32⟩
  | .hbm, ⟨16, _⟩ => ⟨S_, .f32⟩
  | .hbm, ⟨17, _⟩ => ⟨S5120x40, .f32⟩
  | .hbm, ⟨18, _⟩ => ⟨S5120x40, .f32⟩
  | .hbm, ⟨19, _⟩ => ⟨S5120x40x1, .f32⟩
  | .hbm, ⟨20, _⟩ => ⟨S5120x40x128, .f32⟩
  | .hbm, ⟨21, _⟩ => ⟨S5120x40x128, .f32⟩
  | .hbm, ⟨22, _⟩ => ⟨S5120x40x128, .f32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S5120x40x128, .f32⟩
  | .hbm, ⟨27, _⟩ => ⟨S5120x40x128, .f32⟩
  | .hbm, ⟨28, _⟩ => ⟨S_, .f32⟩
  | .hbm, ⟨29, _⟩ => ⟨S5120x40x128, .f32⟩
  | .hbm, ⟨30, _⟩ => ⟨S5120x40x128, .f32⟩
  | .hbm, ⟨31, _⟩ => ⟨S5120x40x128, .i32⟩
  | .hbm, ⟨32, _⟩ => ⟨S5120x5120, .i32⟩
  | .hbm, ⟨33, _⟩ => ⟨S_, .i32⟩
  | .hbm, ⟨34, _⟩ => ⟨S5120x5120, .i32⟩
  | .hbm, ⟨35, _⟩ => ⟨S5120x5120, .i32⟩
  | .hbm, ⟨36, _⟩ => ⟨S5120x2560, .i32⟩
  | .hbm, ⟨37, _⟩ => ⟨S5120x2560, .i32⟩
  | .hbm, ⟨38, _⟩ => ⟨S_, .i32⟩
  | .hbm, ⟨39, _⟩ => ⟨S5120x2560, .i32⟩
  | .hbm, ⟨40, _⟩ => ⟨S5120x2560, .i32⟩
  | .hbm, ⟨41, _⟩ => ⟨S5120x2560, .i32⟩
  | .hbm, ⟨42, _⟩ => ⟨S5120x2560, .i8⟩
  | .hbm, ⟨43, _⟩ => ⟨S5120x2560, .i32⟩
  | .hbm, ⟨44, _⟩ => ⟨S_, .i32⟩
  | .hbm, ⟨45, _⟩ => ⟨S5120x2560, .i32⟩
  | .hbm, ⟨46, _⟩ => ⟨S5120x2560, .i32⟩
  | .hbm, ⟨47, _⟩ => ⟨S_, .i32⟩
  | .hbm, ⟨48, _⟩ => ⟨S5120x2560, .i32⟩
  | .hbm, ⟨49, _⟩ => ⟨S5120x2560, .i32⟩
  | .hbm, ⟨50, _⟩ => ⟨S_, .i32⟩
  | .hbm, ⟨51, _⟩ => ⟨S5120x2560, .i32⟩
  | .hbm, ⟨52, _⟩ => ⟨S5120x2560, .i1⟩
  | .hbm, ⟨53, _⟩ => ⟨S_, .i32⟩
  | .hbm, ⟨54, _⟩ => ⟨S5120x2560, .i32⟩
  | .hbm, ⟨55, _⟩ => ⟨S5120x2560, .i32⟩
  | .hbm, ⟨56, _⟩ => ⟨S5120x2560, .i32⟩
  | .hbm, ⟨57, _⟩ => ⟨S_, .i32⟩
  | .hbm, ⟨58, _⟩ => ⟨S5120x2560, .i32⟩
  | .hbm, ⟨59, _⟩ => ⟨S5120x2560, .i1⟩
  | .hbm, ⟨60, _⟩ => ⟨S_, .i32⟩
  | .hbm, ⟨61, _⟩ => ⟨S5120x2560, .i32⟩
  | .hbm, ⟨62, _⟩ => ⟨S5120x2560, .i32⟩
  | .hbm, ⟨63, _⟩ => ⟨S5120x2560, .i32⟩
  | .hbm, ⟨64, _⟩ => ⟨S5120x2560x1, .i32⟩
  | .hbm, ⟨65, _⟩ => ⟨S5120x2560x1, .i32⟩
  | .hbm, ⟨66, _⟩ => ⟨S5120x2560x2, .i32⟩
  | .hbm, ⟨67, _⟩ => ⟨S5120x40x128, .i32⟩
  | .hbm, ⟨68, _⟩ => ⟨S5120x40x128, .f32⟩
  | .hbm, ⟨69, _⟩ => ⟨S5120x40x1, .f32⟩
  | .hbm, ⟨70, _⟩ => ⟨S5120x40x128, .f32⟩
  | .hbm, ⟨71, _⟩ => ⟨S5120x40x128, .f32⟩
  | .hbm, ⟨72, _⟩ => ⟨S5120x40x128, .f32⟩
  | .hbm, ⟨73, _⟩ => ⟨S5120x5120, .f32⟩
  | _, _ => ⟨S38912x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_c_3 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_c_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_c_11 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Proof.Trip.lean ====
/-
  Hand-written. One trip of the quantising loop of `KernelIdeal`'s body, holding of the accumulator ring only the
  slot of the block being finished: the other slot may have a transfer in flight.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's beside the transfers' counters. -/
local notation "𝕄" => MT nD τ sig Unit (Elt F) ℕ (Pipeline.UD sig nD τ) ℕ

/-- The block's slot of the accumulator ring, by the block's number's parity. -/
abbrev par (i : grid0.Coords) : ℕ := (2 * (i 0).val + (i 1).val) % 2

/-- A slot lies in the accumulator. -/
theorem slotInb (p : ℕ) (hp : p < 2) : ∀ a, (![p, 0, 0] : Fin 3 → ℕ) a + S1x1280x2560.size a ≤ S2x1280x2560.size a := by
  intro a; fin_cases a
  · show p + 1 ≤ 2; omega
  · show 0 + 1280 ≤ 1280; omega
  · show 0 + 2560 ≤ 2560; omega

/-- Slot `p` as a rectangle of the ring. -/
abbrev slotR (p : ℕ) (hp : p < 2) : Rect S2x1280x2560 := Rect.unit (s := S2x1280x2560) ![p, 0, 0] S1x1280x2560.size (slotInb p hp)

/-- A parity is below two. -/
theorem par_lt (i : grid0.Coords) : par i < 2 := Nat.mod_lt _ (by decide)

/-- The slot of the block at point `i`. -/
abbrev slotRi (i : grid0.Coords) : Rect S2x1280x2560 := Rect.unit (s := S2x1280x2560) ![(2 * (i 0).val + (i 1).val) % 2, 0, 0] S1x1280x2560.size (slotInb _ (par_lt i))

/-- The accumulator ring. -/
abbrev scA : Memref sig .tc .vmem S2x1280x2560 .f32 := Memref.whole cc0_scratch0

/-- What a trip holds: the two staged blocks whole, the ring by the block's slot. -/
abbrev TripS (c : Dev nD) (i : grid0.Coords) (arg6 : Memref sig .tc .vmem S1280x1280 .i8) (arg7 : Memref sig .tc .vmem S1280x40 .f32)
    (f6 : BufTy.Contents (Elt F) arg6.view.ty) (f7 : BufTy.Contents (Elt F) arg7.view.ty)
    (f9 : BufTy.Contents (Elt F) scA.view.ty) : sProp 𝕄 :=
  iprop((arg6.view.loc (c : Thread nD τ) ↦[arg6.view.set]{fullShare} f6) ∗ (arg7.view.loc (c : Thread nD τ) ↦[arg7.view.set]{fullShare} f7)
    ∗ (scA.view.loc (c : Thread nD τ) ↦[scA.view.setOn (slotRi i).set]{fullShare} f9))

@[irreducible] def tripS (𝒱 : Variants) (c : Dev nD) (bd : Option 𝒱.V) (i : grid0.Coords) (arg3 : Memref sig .tc .vmem S1024x1280 .bf16) (harg3 : arg3.IsWhole) (arg4 : Memref sig .tc .vmem S1024x2560 .bf16) (harg4 : arg4.IsWhole) (arg5 : Memref sig .tc .hbm S5120x5120 .f32) (harg5 : arg5.IsWhole) (arg6 : Memref sig .tc .vmem S1280x1280 .i8) (harg6 : arg6.IsWhole) (arg7 : Memref sig .tc .vmem S1280x40 .f32) (harg7 : arg7.IsWhole) (arg8 : Memref sig .tc .hbm S5120x5120 .f32) (harg8 : arg8.IsWhole) (harg9 : scA.IsWhole) (arg10 : DmaSems sig S2) (arg11 : DmaSems sig S2) (arg1 : BitVec 32) (v1 : BitVec 32) (v2 : BitVec 32) (k0_h6 : k0_cond6 i = 1#1) (k : Fin k0_t1_loop.trips) :
    Σ' (L_arg6 : (BufTy.Contents (Elt F) arg6.view.ty → BufTy.Contents (Elt F) arg7.view.ty → BufTy.Contents (Elt F) scA.view.ty → List (View.Piece (Elt F) S1280x1280 .i8))) (L_arg7 : (BufTy.Contents (Elt F) arg6.view.ty → BufTy.Contents (Elt F) arg7.view.ty → BufTy.Contents (Elt F) scA.view.ty → List (View.Piece (Elt F) S1280x40 .f32))) , { L_arg9 : (BufTy.Contents (Elt F) arg6.view.ty → BufTy.Contents (Elt F) arg7.view.ty → BufTy.Contents (Elt F) scA.view.ty → List (View.Piece (Elt F) S2x1280x2560 .f32)) // ∀ (E : Set ℕ) (f_arg6 : BufTy.Contents (Elt F) arg6.view.ty) (f_arg7 : BufTy.Contents (Elt F) arg7.view.ty) (f_arg9 : BufTy.Contents (Elt F) scA.view.ty),
      TripS (F := F) c i arg6 arg7 f_arg6 f_arg7 f_arg9
      ⊢ wp frame (wpE (defs₀ (F := F)) 𝒱 (c : Thread nD τ) bd) E (k0_t1_body (F := F) i arg3 harg3 arg4 harg4 arg5 harg5 arg6 harg6 arg7 harg7 arg8 harg8 scA harg9 arg10 arg11 arg1 v1 v2 k0_h6 k PUnit.unit)
          (fun _ => TripS (F := F) c i arg6 arg7 (arg6.view.writes (Elt F) f_arg6 (L_arg6 f_arg6 f_arg7 f_arg9)) (arg7.view.writes (Elt F) f_arg7 (L_arg7 f_arg6 f_arg7 f_arg9)) (scA.view.writes (Elt F) f_arg9 (L_arg9 f_arg6 f_arg7 f_arg9))) } := by
  have hk : k.val < 40 := Nat.lt_of_lt_of_le k.isLt k0_t1_abs.2.1
  refine ⟨?_, ?_, ?_, fun E f_arg6 f_arg7 f_arg9 => ?run⟩
  case run =>
    unfold k0_t1_body
    iintro ⟨HW_arg6, HW_arg7, HW_arg9⟩
    sl_exec
    sl_step
    sl_close

end Cert.KernelIdeal.Hand

end
-- ==== Proof.Geo.lean ====
/-
  Hand-written. The places of the kernel's own transfers: a slot of the accumulator ring, a block of the error array and
  the same block of the new-error array; which elements they are, and what reading or writing through them does.
-/
module

public import proofs.«01_k».proof.Proof.Trip
public import Idealize.ShloMosaic.Lib.Pointwise
public import Idealize.ShloMosaic.Lib.Ring

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A block of 1280 rows and 2560 lanes, and the ring's, the arrays' contents. -/
abbrev Blk (F : FTy → Type) [FloatOps F] := Vec F S1280x2560 .f32
abbrev RBuf (F : FTy → Type) [FloatOps F] := (Memref.whole cc0_scratch0).view.ty.Contents (Elt F)

/-- The slot of the ring at `o`, the block of an array in HBM at `o`. -/
abbrev slotM (o : Fin 3 → ℕ) (h : ∀ a, o a + S1x1280x2560.size a ≤ S2x1280x2560.size a) : Memref sig .tc .vmem S1280x2560 .f32 :=
  (scA.slice (Rect.unit (s := S2x1280x2560) o S1x1280x2560.size h) (fun _ => rfl)).squeeze S1280x2560 squeezes_S1x1280x2560_S1280x2560
abbrev hbmM (b : Memref sig .tc .hbm S5120x5120 .f32) (o : Fin 2 → ℕ) (h : ∀ a, o a + S1280x2560.size a ≤ S5120x5120.size a) : Memref sig .tc .hbm S1280x2560 .f32 :=
  b.slice (Rect.unit (s := S5120x5120) o S1280x2560.size h) (fun _ => rfl)
/-- The cell of a pair of DMA semaphores at `o`. -/
abbrev cellM (S : DmaSems sig S2) (o : Fin 1 → ℕ) (h : ∀ a, o a + S1.size a ≤ S2.size a) : DmaSem sig :=
  ((S.slice (Rect.unit (s := S2) o S1.size h)).squeeze S_ squeezes_S1_S_).sem

abbrev errA : Memref sig .tc .hbm S5120x5120 .f32 := Memref.whole main_arg2
abbrev nerrA : Memref sig .tc .hbm S5120x5120 .f32 := Memref.whole main_v0_2

/-- The elements of slot `p` of the ring, and of block `b` of a 5120 × 5120 array. -/
def slotSet (p : ℕ) : Finset S2x1280x2560.Idx := Finset.univ.filter fun x => (x 0).val = p
def blkSet (b : ℕ) : Finset S5120x5120.Idx := Finset.univ.filter fun x => (x 0).val / 1280 = b / 2 ∧ (x 1).val / 2560 = b % 2

/-- An index lies in a slot when its first coordinate is the slot's. -/
theorem mem_slotSet {p : ℕ} {x : S2x1280x2560.Idx} : x ∈ slotSet p ↔ (x 0).val = p := by simp [slotSet]
/-- An index lies in a block when its row and column do. -/
theorem mem_blkSet {b : ℕ} {x : S5120x5120.Idx} : x ∈ blkSet b ↔ (x 0).val / 1280 = b / 2 ∧ (x 1).val / 2560 = b % 2 := by simp [blkSet]

/-- The rectangle at a slot's offset is the slot. -/
theorem slotRect_set {o : Fin 3 → ℕ} {p : ℕ} (ho : o = ![p, 0, 0]) (h : ∀ a, o a + S1x1280x2560.size a ≤ S2x1280x2560.size a) :
    (Rect.unit (s := S2x1280x2560) o S1x1280x2560.size h).set = slotSet p := by
  subst ho
  ext x
  rw [Rect.mem_set_unit, mem_slotSet]
  constructor
  · intro hx; have := hx 0; change p ≤ (x 0).val ∧ (x 0).val < p + 1 at this; omega
  · intro hx a
    fin_cases a
    · show p ≤ (x 0).val ∧ (x 0).val < p + 1; omega
    · show 0 ≤ (x 1).val ∧ (x 1).val < 0 + 1280; have h1 : (x 1).val < 1280 := (x 1).isLt; omega
    · show 0 ≤ (x 2).val ∧ (x 2).val < 0 + 2560; have h1 : (x 2).val < 2560 := (x 2).isLt; omega

/-- The view of a slot covers the slot. -/
theorem slotM_set {o : Fin 3 → ℕ} {p : ℕ} (ho : o = ![p, 0, 0]) (h : ∀ a, o a + S1x1280x2560.size a ≤ S2x1280x2560.size a) :
    (slotM o h).view.set = slotSet p := by
  rw [← slotRect_set ho h]
  show ((scA.view.slice _).reshape _ _).set = _
  rw [View.set_reshape]
  exact View.set_slice_whole _ _

/-- The view of a block of the error covers the block. -/
theorem hbmM_set {o : Fin 2 → ℕ} {b : ℕ} (hb : b < 8) (ho : o = ![1280 * (b / 2), 2560 * (b % 2)]) (h : ∀ a, o a + S1280x2560.size a ≤ S5120x5120.size a) :
    (hbmM errA o h).view.set = blkSet b := by
  subst ho
  refine (View.set_slice_whole _ _).trans ?_
  ext x
  rw [Rect.mem_set_unit, mem_blkSet]
  have h0 : (x 0).val < 5120 := (x 0).isLt
  have h1 : (x 1).val < 5120 := (x 1).isLt
  constructor
  · intro hx
    have e0 := hx 0; have e1 := hx 1
    change 1280 * (b / 2) ≤ (x 0).val ∧ (x 0).val < 1280 * (b / 2) + 1280 at e0
    change 2560 * (b % 2) ≤ (x 1).val ∧ (x 1).val < 2560 * (b % 2) + 2560 at e1
    constructor <;> omega
  · intro hx a
    fin_cases a
    · show 1280 * (b / 2) ≤ (x 0).val ∧ (x 0).val < 1280 * (b / 2) + 1280; omega
    · show 2560 * (b % 2) ≤ (x 1).val ∧ (x 1).val < 2560 * (b % 2) + 2560; omega

/-- The view of a block of the new error covers the block. -/
theorem hbmN_set {o : Fin 2 → ℕ} {b : ℕ} (hb : b < 8) (ho : o = ![1280 * (b / 2), 2560 * (b % 2)]) (h : ∀ a, o a + S1280x2560.size a ≤ S5120x5120.size a) :
    (hbmM nerrA o h).view.set = blkSet b := by
  have := hbmM_set hb ho h
  exact (View.set_slice_whole _ _).trans ((View.set_slice_whole _ _).symm.trans this)

/-- Where an element of the slot is. -/
theorem slotM_emb {p : ℕ} (h : ∀ a, (![p, 0, 0] : Fin 3 → ℕ) a + S1x1280x2560.size a ≤ S2x1280x2560.size a) (j : S1280x2560.Idx) :
    (((slotM ![p, 0, 0] h).view.emb j : S2x1280x2560.Idx) 0).val = p ∧ (((slotM ![p, 0, 0] h).view.emb j : S2x1280x2560.Idx) 1).val = (j 0).val
      ∧ (((slotM ![p, 0, 0] h).view.emb j : S2x1280x2560.Idx) 2).val = (j 1).val := by
  idx_vars j
  have e : Shape.reshapeEquiv (show S1280x2560.numel = S1x1280x2560.numel from squeezes_S1x1280x2560_S1280x2560.numel_eq) (ix2 j0 j1) = ix3 (0 : Fin 1) j0 j1 := by
    pointwise
  have e' : ((slotM ![p, 0, 0] h).view.emb (ix2 j0 j1) : S2x1280x2560.Idx) = (Rect.unit (s := S2x1280x2560) ![p, 0, 0] S1x1280x2560.size h).emb (ix3 (0 : Fin 1) j0 j1) := by
    rw [← e]; rfl
  rw [e']
  refine ⟨?_, ?_, ?_⟩
  · show p + 1 * 0 = p; omega
  · show 0 + 1 * j0.val = j0.val; omega
  · show 0 + 1 * j1.val = j1.val; omega

/-- Where an index of a block's view lies in the error. -/
theorem hbmM_emb {o : Fin 2 → ℕ} (h : ∀ a, o a + S1280x2560.size a ≤ S5120x5120.size a) (j : S1280x2560.Idx) :
    (((hbmM errA o h).view.emb j : S5120x5120.Idx) 0).val = o 0 + (j 0).val ∧ (((hbmM errA o h).view.emb j : S5120x5120.Idx) 1).val = o 1 + (j 1).val := by
  refine ⟨?_, ?_⟩
  · show o 0 + 1 * (j 0).val = _; omega
  · show o 1 + 1 * (j 1).val = _; omega

/-- Where an index of a block's view lies in the new error. -/
theorem hbmN_emb {o : Fin 2 → ℕ} (h : ∀ a, o a + S1280x2560.size a ≤ S5120x5120.size a) (j : S1280x2560.Idx) :
    (((hbmM nerrA o h).view.emb j : S5120x5120.Idx) 0).val = o 0 + (j 0).val ∧ (((hbmM nerrA o h).view.emb j : S5120x5120.Idx) 1).val = o 1 + (j 1).val := by
  refine ⟨?_, ?_⟩
  · show o 0 + 1 * (j 0).val = _; omega
  · show o 1 + 1 * (j 1).val = _; omega

/-! ## Contents -/

/-- A ring holding the block `X` in every slot. -/
def cb (X : Blk F) : RBuf F := fun x => X (ix2 (x 1) (x 2))

/-- Block `b` of an array. -/
theorem blk_row {b : ℕ} (hb : b < 8) (r : Fin 1280) : 1280 * (b / 2) + r.val < 5120 := by omega
/-- A column of a block is a column of the matrix. -/
theorem blk_lane (b : ℕ) (l : Fin 2560) : 2560 * (b % 2) + l.val < 5120 := by omega

def blkOf (b : ℕ) (hb : b < 8) (f : Vec F S5120x5120 .f32) : Blk F :=
  fun j => f (ix2 ⟨1280 * (b / 2) + (j 0).val, blk_row hb (j 0)⟩ ⟨2560 * (b % 2) + (j 1).val, blk_lane b (j 1)⟩)

/-- An array with block `b` replaced. -/
def setBlk (b : ℕ) (f : Vec F S5120x5120 .f32) (X : Blk F) : Vec F S5120x5120 .f32 :=
  fun x => if (x 0).val / 1280 = b / 2 ∧ (x 1).val / 2560 = b % 2 then X (ix2 ⟨(x 0).val % 1280, Nat.mod_lt _ (by decide)⟩ ⟨(x 1).val % 2560, Nat.mod_lt _ (by decide)⟩) else f x

/-- Reading a slot that holds a block gives the block. -/
theorem slotM_read {o : Fin 3 → ℕ} {p : ℕ} (ho : o = ![p, 0, 0]) (h : ∀ a, o a + S1x1280x2560.size a ≤ S2x1280x2560.size a) (X : Blk F) :
    (slotM o h).view.read (Elt F) (cb X) = X := by
  subst ho
  funext j
  have e := slotM_emb h j
  show cb X ((slotM ![p, 0, 0] h).view.emb j) = X j
  unfold cb
  refine congrArg X ?_
  rw [eq_ix2 j]
  congr 1
  · exact Fin.ext e.2.1
  · exact Fin.ext e.2.2

/-- Writing a slot through its view, on the slot's elements. -/
theorem slotM_write {o : Fin 3 → ℕ} {p : ℕ} (ho : o = ![p, 0, 0]) (h : ∀ a, o a + S1x1280x2560.size a ≤ S2x1280x2560.size a) (f : RBuf F) (X : Blk F) :
    ∀ x ∈ slotSet p, (slotM o h).view.write (Elt F) f X Finset.univ x = cb X x := by
  subst ho
  intro x hx
  rw [← slotM_set rfl h] at hx
  obtain ⟨j, -, rfl⟩ := Finset.mem_map.mp hx
  rw [View.write_emb]
  rw [if_pos (Finset.mem_univ j)]
  have e := slotM_emb h j
  refine (cast_eq _ _).trans ?_
  unfold cb
  refine congrArg X ?_
  rw [eq_ix2 j]
  congr 1
  · exact Fin.ext e.2.1.symm
  · exact Fin.ext e.2.2.symm

/-- Reading a block's view of the error gives that block of it. -/
theorem hbmM_read {o : Fin 2 → ℕ} {b : ℕ} (hb : b < 8) (ho : o = ![1280 * (b / 2), 2560 * (b % 2)]) (h : ∀ a, o a + S1280x2560.size a ≤ S5120x5120.size a) (f : Vec F S5120x5120 .f32) :
    (hbmM errA o h).view.read (Elt F) f = blkOf b hb f := by
  subst ho
  funext j
  have e := hbmM_emb h j
  show f ((hbmM errA _ h).view.emb j) = _
  unfold blkOf
  refine congrArg f ?_
  rw [eq_ix2 ((hbmM errA _ h).view.emb j : S5120x5120.Idx)]
  congr 1
  · exact Fin.ext e.1
  · exact Fin.ext e.2

/-- What writing a block through its view of the new error leaves. -/
theorem hbmN_write {o : Fin 2 → ℕ} {b : ℕ} (hb : b < 8) (ho : o = ![1280 * (b / 2), 2560 * (b % 2)]) (h : ∀ a, o a + S1280x2560.size a ≤ S5120x5120.size a) (f : Vec F S5120x5120 .f32) (X : Blk F) :
    (hbmM nerrA o h).view.write (Elt F) f X Finset.univ = setBlk b f X := by
  have hs := hbmN_set hb ho h
  subst ho
  funext x
  by_cases hx : x ∈ blkSet b
  · have hx' := hx
    rw [← hs] at hx
    obtain ⟨j, -, rfl⟩ := Finset.mem_map.mp hx
    rw [View.write_emb, if_pos (Finset.mem_univ j)]
    have e := hbmN_emb h j
    refine (cast_eq _ _).trans ?_
    unfold setBlk
    rw [if_pos (mem_blkSet.mp hx')]
    refine congrArg X ?_
    have j0 : (j 0).val < 1280 := (j 0).isLt
    have j1 : (j 1).val < 2560 := (j 1).isLt
    change _ = 1280 * (b / 2) + (j 0).val ∧ _ = 2560 * (b % 2) + (j 1).val at e
    refine (eq_ix2 j).trans ?_
    congr 1
    · refine Fin.ext ?_
      show (j 0).val = _ % 1280
      rw [e.1]; omega
    · refine Fin.ext ?_
      show (j 1).val = _ % 2560
      rw [e.2]; omega
  · have hn : x ∉ (hbmM nerrA ![1280 * (b / 2), 2560 * (b % 2)] h).view.setOn Finset.univ := by
      rw [show (hbmM nerrA ![1280 * (b / 2), 2560 * (b % 2)] h).view.setOn Finset.univ = blkSet b from hs]; exact hx
    rw [View.write_of_not_mem _ _ _ hn]
    unfold setBlk
    rw [if_neg (fun hc => hx (mem_blkSet.mpr hc))]

end Cert.KernelIdeal.Hand

end
-- ==== Proof.Ops.lean ====
/-
  Hand-written. Starting and awaiting one of the kernel's own transfers: what each takes and gives, at a block of the grid.
-/
module

public import proofs.«01_k».proof.Proof.Geo
public import Idealize.ShloMosaic.Lib.Pointwise
public import Idealize.ShloMosaic.Lib.Ring

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The transfers' counters in the proof's algebra. -/
abbrev EC : UEmb Counters (MT nD τ sig Unit (Elt F) ℕ (Pipeline.UD sig nD τ) ℕ) := countersEmb (U := Pipeline.UD sig nD τ)

/-- A block's semaphore lies among the two. -/
theorem cellInb (b : ℕ) : ∀ a, (![b % 2] : Fin 1 → ℕ) a + S1.size a ≤ S2.size a := by
  intro a; fin_cases a; show b % 2 + 1 ≤ 2; omega

/-- The semaphore of block `b`'s transfers among the pair `S`. -/
def cell (S : DmaSems sig S2) (b : ℕ) : SemLoc sig := SemLoc.dma (cellM S ![b % 2] (cellInb b))

/-- Blocks of equal parity have the same semaphore. -/
theorem cell_congr (S : DmaSems sig S2) {b b' : ℕ} (h : b % 2 = b' % 2) : cell S b = cell S b' := by
  unfold cell; simp only [h]

/-- The units a transfer into a slot, and one into a block of the new-error array, credits. -/
def creditI : ℕ := (slotM ![0, 0, 0] (slotInb 0 (by decide))).view.dmaCredit
def creditO : ℕ := (hbmM nerrA ![0, 0] (by decide)).view.dmaCredit

/-- A copy in counts for something. -/
theorem creditI_pos : 0 < creditI := View.dmaCredit_pos _ (by decide)
/-- A copy out counts for something. -/
theorem creditO_pos : 0 < creditO := View.dmaCredit_pos _ (by decide)

variable (c : Dev nD)

/-- Block `b`'s slot of the ring, holding `X`. -/
def SlotAt (b : ℕ) (X : Blk F) : sProp 𝕄 := (scA.view.loc (c : Thread nD τ) ↦[slotSet (b % 2)]{fullShare} cb X)
/-- The error array whole; the new-error array whole. -/
def ErrAll (e : Vec F S5120x5120 .f32) : sProp 𝕄 := (errA.view.loc (c : Thread nD τ) ↦[Finset.univ]{fullShare} e)
def NerrAll (g : Vec F S5120x5120 .f32) : sProp 𝕄 := (nerrA.view.loc (c : Thread nD τ) ↦[Finset.univ]{fullShare} g)
/-- Semaphore `b` of the pair at zero. -/
def Sem0 (S : DmaSems sig S2) (b : ℕ) : sProp 𝕄 := semVal ((c : Thread nD τ), cell S b) 0

/-- Block `b` of the error array on its way into its slot. -/
def InFl (b : ℕ) (X : Blk F) (e : Vec F S5120x5120 .f32) : sProp 𝕄 :=
  iprop(Transfers.Flight (EC (F := F)) (c : Thread nD τ) (cell cc0_scratch1 b) () creditI
      iprop(SlotAt c b X ∗ (errA.view.loc (c : Thread nD τ) ↦[blkSet b]{fullShare} e))
    ∗ (errA.view.loc (c : Thread nD τ) ↦[Finset.univ \ blkSet b]{fullShare} e))

/-- Block `b` on its way from its slot to the new-error array, which will hold `g`. -/
def OutFl (b : ℕ) (g : Vec F S5120x5120 .f32) : sProp 𝕄 :=
  iprop(Transfers.Flight (EC (F := F)) (c : Thread nD τ) (cell cc0_scratch2 b) () creditO
      iprop((nerrA.view.loc (c : Thread nD τ) ↦[blkSet b]{fullShare} g) ∗ ∃ X : Blk F, SlotAt c b X)
    ∗ (nerrA.view.loc (c : Thread nD τ) ↦[Finset.univ \ blkSet b]{fullShare} g))

variable (𝒱 : Variants) (bd : Option 𝒱.V)

/-- Starting block `b`'s transfer into its slot. -/
theorem issue_in {α : Type} {Q : α → sProp 𝕄} {k : PUnit → Prog (TpuEff nD τ sig (Elt F) Λ₀ .tc) α} (b : ℕ) (hb : b < 8) {oS : Fin 3 → ℕ} {oH : Fin 2 → ℕ} {oC : Fin 1 → ℕ} {hS : ∀ a, oS a + S1x1280x2560.size a ≤ S2x1280x2560.size a}
    {hH : ∀ a, oH a + S1280x2560.size a ≤ S5120x5120.size a} {hC : ∀ a, oC a + S1.size a ≤ S2.size a}
    (eS : oS = ![b % 2, 0, 0]) (eH : oH = ![1280 * (b / 2), 2560 * (b % 2)]) (eC : oC = ![b % 2]) {hsrc hdst hsem}
    (X : Blk F) (e : Vec F S5120x5120 .f32) :
    iprop(ErrAll c e ∗ SlotAt c b X ∗ Sem0 c cc0_scratch1 b)
      ⊢ iprop((InFl c b (blkOf b hb e) e -∗ wp frame (wpE (defs₀ (F := F)) 𝒱 (c : Thread nD τ) bd) Set.univ (k ⟨⟩) Q)
        -∗ wp frame (wpE (defs₀ (F := F)) 𝒱 (c : Thread nD τ) bd) Set.univ
            (Prog.op (.enqueueDma (hbmM errA oH hH) (.here (slotM oS hS)) (.dma (cellM cc0_scratch1 oC hC)) hsrc hdst hsem) k) Q) := by
  have hsS := slotM_set eS hS
  have hsH := hbmM_set hb eH hH
  have hR := hbmM_read hb eH hH e
  have hW := slotM_write eS hS (cb X) (blkOf b hb e)
  subst eC
  unfold ErrAll SlotAt Sem0 InFl
  iintro ⟨He, Hs, Hv⟩ Hk
  ihave He := (pointsTo_split_subset (Finset.subset_univ (blkSet b))).1 $$ He
  icases He with ⟨He, Hr⟩
  have hN : (slotM oS hS).view.amount (.dma (cellM cc0_scratch1 ![b % 2] hC)) = creditI := rfl
  have hle : (slotM oS hS).view.set ⊆ slotSet (b % 2) := hsS.le
  have key := Transfers.wp_dmaLocal (EC (F := F)) 𝒱 (c : Thread nD τ) bd (defs := defs₀ (F := F)) () creditI hN creditI_pos hle
    (src := hbmM errA oH hH) (fs := e) (fd := cb X) (q := fullShare) (via := .same) (hsrc := hsrc) (hdst := hdst) (hsem := hsem) (k := k) (Q := Q)
  iapply key $$ [He Hs Hv]
  · rw [hsH]
    isplitl [He]; · iexact He
    isplitl [Hs]; · iexact Hs
    iexact Hv
  iintro Hf
  iapply Hk
  isplitr [Hr]
  · iapply (Transfers.Flight_mono (EC (F := F)) (c : Thread nD τ)) $$ Hf
    rw [hsH]
    refine sep_mono ?_ .rfl
    refine Entails.of_eq (pointsTo_congr ?_)
    intro x hx
    rw [show (ReadAs.same : ReadAs (Elt F) S1280x2560 .f32 S1280x2560 .f32).apply ((hbmM errA oH hH).view.read (Elt F) e) = blkOf b hb e from hR]
    exact hW x hx
  · iexact Hr

/-- Awaiting block `b`'s transfer into its slot. -/
theorem wait_in {α : Type} {Q : α → sProp 𝕄} {k : PUnit → Prog (TpuEff nD τ sig (Elt F) Λ₀ .tc) α} (b : ℕ) {oS : Fin 3 → ℕ} {oH : Fin 2 → ℕ} {oC : Fin 1 → ℕ} {hS : ∀ a, oS a + S1x1280x2560.size a ≤ S2x1280x2560.size a}
    {hH : ∀ a, oH a + S1280x2560.size a ≤ S5120x5120.size a} {hC : ∀ a, oC a + S1.size a ≤ S2.size a}
    (eC : oC = ![b % 2]) {hsrc hdst} (X : Blk F) (e : Vec F S5120x5120 .f32) (W : Waits sig Unit) :
    iprop(InFl c b X e ∗ owes (c : Thread nD τ) 0 W)
      ⊢ iprop((iprop(SlotAt c b X ∗ ErrAll c e ∗ Sem0 c cc0_scratch1 b ∗ owes (c : Thread nD τ) 0 (insert (cell cc0_scratch1 b, ()) W))
          -∗ wp frame (wpE (defs₀ (F := F)) 𝒱 (c : Thread nD τ) bd) Set.univ (k ⟨⟩) Q)
        -∗ wp frame (wpE (defs₀ (F := F)) 𝒱 (c : Thread nD τ) bd) Set.univ
            (Prog.op (.waitDma2 (cellM cc0_scratch1 oC hC) (hbmM errA oH hH) (slotM oS hS) hsrc hdst) k) Q) := by
  subst eC
  unfold ErrAll SlotAt Sem0 InFl
  iintro ⟨⟨Hf, Hr⟩, HO⟩ Hk
  have hN : (slotM oS hS).view.dmaCredit = creditI := rfl
  have key := Transfers.wp_waitLocal (EC (F := F)) 𝒱 (c : Thread nD τ) bd (defs := defs₀ (F := F)) () hN
    (sem := cellM cc0_scratch1 ![b % 2] hC) (srcw := hbmM errA oH hH) (hsrc := hsrc) (hdst := hdst) (k := k) (Q := Q) (W := W)
    (D := iprop((scA.view.loc (c : Thread nD τ) ↦[slotSet (b % 2)]{fullShare} cb X) ∗ (errA.view.loc (c : Thread nD τ) ↦[blkSet b]{fullShare} e)))
  iapply key $$ [Hf HO]
  · isplitl [Hf]; · iexact Hf
    iexact HO
  iintro ⟨⟨Hs, He⟩, Hv, HO⟩
  iapply Hk
  isplitl [Hs]; · iexact Hs
  isplitl [He Hr]
  · iapply (pointsTo_split_subset (Finset.subset_univ (blkSet b))).2
    isplitl [He]; · iexact He
    iexact Hr
  isplitl [Hv]; · iexact Hv
  iexact HO

/-- Starting block `b`'s transfer out of its slot. -/
theorem issue_out {α : Type} {Q : α → sProp 𝕄} {k : PUnit → Prog (TpuEff nD τ sig (Elt F) Λ₀ .tc) α} (b : ℕ) (hb : b < 8) {oS : Fin 3 → ℕ} {oH : Fin 2 → ℕ} {oC : Fin 1 → ℕ} {hS : ∀ a, oS a + S1x1280x2560.size a ≤ S2x1280x2560.size a}
    {hH : ∀ a, oH a + S1280x2560.size a ≤ S5120x5120.size a} {hC : ∀ a, oC a + S1.size a ≤ S2.size a}
    (eS : oS = ![b % 2, 0, 0]) (eH : oH = ![1280 * (b / 2), 2560 * (b % 2)]) (eC : oC = ![b % 2]) {hsrc hdst hsem}
    (X : Blk F) (g : Vec F S5120x5120 .f32) :
    iprop(SlotAt c b X ∗ NerrAll c g ∗ Sem0 c cc0_scratch2 b)
      ⊢ iprop((OutFl c b (setBlk b g X) -∗ wp frame (wpE (defs₀ (F := F)) 𝒱 (c : Thread nD τ) bd) Set.univ (k ⟨⟩) Q)
        -∗ wp frame (wpE (defs₀ (F := F)) 𝒱 (c : Thread nD τ) bd) Set.univ
            (Prog.op (.enqueueDma (slotM oS hS) (.here (hbmM nerrA oH hH)) (.dma (cellM cc0_scratch2 oC hC)) hsrc hdst hsem) k) Q) := by
  have hsS := slotM_set eS hS
  have hsH := hbmN_set hb eH hH
  have hR := slotM_read eS hS X
  have hW := hbmN_write hb eH hH g X
  subst eC
  unfold NerrAll Sem0 OutFl SlotAt
  iintro ⟨Hs, He, Hv⟩ Hk
  ihave He := (pointsTo_split_subset (Finset.subset_univ (blkSet b))).1 $$ He
  icases He with ⟨He, Hr⟩
  have hN : (hbmM nerrA oH hH).view.amount (.dma (cellM cc0_scratch2 ![b % 2] hC)) = creditO := rfl
  have hle : (hbmM nerrA oH hH).view.set ⊆ blkSet b := hsH.le
  have key := Transfers.wp_dmaLocal (EC (F := F)) 𝒱 (c : Thread nD τ) bd (defs := defs₀ (F := F)) () creditO hN creditO_pos hle
    (src := slotM oS hS) (fs := cb X) (fd := g) (q := fullShare) (via := .same) (hsrc := hsrc) (hdst := hdst) (hsem := hsem) (k := k) (Q := Q)
  iapply key $$ [He Hs Hv]
  · rw [hsS]
    isplitl [Hs]; · iexact Hs
    isplitl [He]; · iexact He
    iexact Hv
  iintro Hf
  iapply Hk
  isplitr [Hr]
  · iapply (Transfers.Flight_mono (EC (F := F)) (c : Thread nD τ)) $$ Hf
    rw [hsS]
    refine BI.sep_mono ?_ ?_
    · refine Entails.of_eq (pointsTo_congr ?_)
      intro x hx
      rw [show (ReadAs.same : ReadAs (Elt F) S1280x2560 .f32 S1280x2560 .f32).apply ((slotM oS hS).view.read (Elt F) (cb X)) = X from hR]
      exact congrFun hW x
    · exact (show iprop(_) ⊢ iprop(∃ Y : Blk F, (scA.view.loc (c : Thread nD τ) ↦[slotSet (b % 2)]{fullShare} cb Y)) by iintro H; iexists X; iexact H)
  · refine Entails.of_eq (pointsTo_congr ?_)
    intro x hx
    rw [Finset.mem_sdiff] at hx
    exact (if_neg (fun h => hx.2 (mem_blkSet.mpr h))).symm

/-- Awaiting block `b`'s transfer out of its slot. -/
theorem wait_out {α : Type} {Q : α → sProp 𝕄} {k : PUnit → Prog (TpuEff nD τ sig (Elt F) Λ₀ .tc) α} (b : ℕ) {oS : Fin 3 → ℕ} {oH : Fin 2 → ℕ} {oC : Fin 1 → ℕ} {hS : ∀ a, oS a + S1x1280x2560.size a ≤ S2x1280x2560.size a}
    {hH : ∀ a, oH a + S1280x2560.size a ≤ S5120x5120.size a} {hC : ∀ a, oC a + S1.size a ≤ S2.size a}
    (eC : oC = ![b % 2]) {hsrc hdst} (g : Vec F S5120x5120 .f32) (W : Waits sig Unit) :
    iprop(OutFl c b g ∗ owes (c : Thread nD τ) 0 W)
      ⊢ iprop((iprop(NerrAll c g ∗ (∃ X : Blk F, SlotAt c b X) ∗ Sem0 c cc0_scratch2 b ∗ owes (c : Thread nD τ) 0 (insert (cell cc0_scratch2 b, ()) W))
          -∗ wp frame (wpE (defs₀ (F := F)) 𝒱 (c : Thread nD τ) bd) Set.univ (k ⟨⟩) Q)
        -∗ wp frame (wpE (defs₀ (F := F)) 𝒱 (c : Thread nD τ) bd) Set.univ
            (Prog.op (.waitDma2 (cellM cc0_scratch2 oC hC) (slotM oS hS) (hbmM nerrA oH hH) hsrc hdst) k) Q) := by
  subst eC
  unfold NerrAll Sem0 OutFl
  iintro ⟨⟨Hf, Hr⟩, HO⟩ Hk
  have hN : (hbmM nerrA oH hH).view.dmaCredit = creditO := rfl
  have key := Transfers.wp_waitLocal (EC (F := F)) 𝒱 (c : Thread nD τ) bd (defs := defs₀ (F := F)) () hN
    (sem := cellM cc0_scratch2 ![b % 2] hC) (srcw := slotM oS hS) (hsrc := hsrc) (hdst := hdst) (k := k) (Q := Q) (W := W)
    (D := iprop((nerrA.view.loc (c : Thread nD τ) ↦[blkSet b]{fullShare} g) ∗ ∃ X : Blk F, SlotAt c b X))
  iapply key $$ [Hf HO]
  · isplitl [Hf]; · iexact Hf
    iexact HO
  iintro ⟨⟨He, Hs⟩, Hv, HO⟩
  iapply Hk
  isplitl [He Hr]
  · iapply (pointsTo_split_subset (Finset.subset_univ (blkSet b))).2
    isplitl [He]; · iexact He
    iexact Hr
  isplitl [Hs]; · iexact Hs
  isplitl [Hv]; · iexact Hv
  iexact HO

end Cert.KernelIdeal.Hand

end
-- ==== Proof.TripSpec.lean ====
/-
  Hand-written. What one trip of the quantising loop leaves, in one formula per memref: each of the twenty groups of 128
  lanes of the trip's 32 rows is read from the slot, its remainder is written back, pairs of groups become packed codes,
  and the twenty scales enter their lanes of the scales block one after another.
-/
module

public import proofs.«01_k».proof.Proof.Trip

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A chunk lies in the accumulator. -/
theorem chunkInb (i : grid0.Coords) (k : ℕ) (hk : k < 40) (c : ℕ) (hc : c < 20) :
    ∀ a, (![(2 * (i 0).val + (i 1).val) % 2, 32 * k, 128 * c] : Fin 3 → ℕ) a + S1x32x128.size a ≤ S2x1280x2560.size a := by
  intro a; fin_cases a
  · show (2 * (i 0).val + (i 1).val) % 2 + 1 ≤ 2; omega
  · show 32 * k + 32 ≤ 1280; omega
  · show 128 * c + 128 ≤ 2560; omega

/-- Group `c` of trip `k`'s rows of the block's slot. -/
abbrev chunk9 (i : grid0.Coords) (k : ℕ) (hk : k < 40) (c : ℕ) (hc : c < 20) : Rect S2x1280x2560 :=
  Rect.unit (s := S2x1280x2560) ![(2 * (i 0).val + (i 1).val) % 2, 32 * k, 128 * c] S1x32x128.size (chunkInb i k hk c hc)

/-- The group as the trip reads it. -/
abbrev rd9 (i : grid0.Coords) (k : ℕ) (hk : k < 40) (f9 : BufTy.Contents (Elt F) scA.view.ty) (c : ℕ) (hc : c < 20) : Vec F S1x32x128 .f32 :=
  View.readAt (Elt F) scA.view (chunk9 i k hk c hc).toLoadRect f9

/-- A chunk's codes lie in the codes block. -/
theorem codeInb (k : ℕ) (hk : k < 40) (c : ℕ) (hc : c < 10) :
    ∀ a, (![32 * k, 128 * c] : Fin 2 → ℕ) a + S32x128.size a ≤ S1280x1280.size a := by
  intro a; fin_cases a
  · show 32 * k + 32 ≤ 1280; omega
  · show 128 * c + 128 ≤ 1280; omega

/-- A row group's scales lie in the scales block. -/
theorem scaleInb (k : ℕ) (hk : k < 40) : ∀ a, (![32 * k, 0] : Fin 2 → ℕ) a + S32x40.size a ≤ S1280x40.size a := by
  intro a; fin_cases a
  · show 32 * k + 32 ≤ 1280; omega
  · show 0 + 40 ≤ 40; omega

abbrev codeR (k : ℕ) (hk : k < 40) (c : ℕ) (hc : c < 10) : Rect S1280x1280 := Rect.unit (s := S1280x1280) ![32 * k, 128 * c] S32x128.size (codeInb k hk c hc)
abbrev scaleR (k : ℕ) (hk : k < 40) : Rect S1280x40 := Rect.unit (s := S1280x40) ![32 * k, 0] S32x40.size (scaleInb k hk)

/-- The packed codes of two neighbouring groups. -/
def codesC (va vb : Vec F S1x32x128 .f32) : IVec S32x128 8 := k0_pay30 k0_pay149 k0_pay150 (k0_pay7 va) (k0_pay7 vb)

/-- The scales block with group `n`'s scales entered. -/
def scaleStep (arg1 : BitVec 32) (n : BitVec 32) (s : FVec F S32x40 .f32) (v : Vec F S1x32x128 .f32) : FVec F S32x40 .f32 :=
  select (cmpi .eq (k0_pay151 arg1) (broadcast S32x40 n)) (broadcastTo S32x40 (shapeCast S32x1 (k0_pay3 v) shapeCasts_S32x1_S32x1) broadcasts_S32x1_S32x40) s

/-- The scales block with the groups below `n` entered. -/
def scaleAll (arg1 : BitVec 32) (s : FVec F S32x40 .f32) (v : (c : ℕ) → c < 20 → Vec F S1x32x128 .f32) : (n : ℕ) → n ≤ 20 → FVec F S32x40 .f32
  | 0, _ => shapeCast S32x40 s shapeCasts_S32x40_S32x40
  | n + 1, h => scaleStep arg1 (BitVec.ofNat 32 n) (scaleAll arg1 s v n (Nat.le_of_succ_le h)) (v n h)

/-- The remainders a trip writes, groups in the order written, last first. -/
def L9 (i : grid0.Coords) (k : ℕ) (hk : k < 40) (f9 : BufTy.Contents (Elt F) scA.view.ty) : (n : ℕ) → n ≤ 20 → List (View.Piece (Elt F) S2x1280x2560 .f32)
  | 0, _ => []
  | n + 1, h => ⟨chunk9 i k hk n h, k0_pay5 (rd9 i k hk f9 n h)⟩ :: L9 i k hk f9 n (Nat.le_of_succ_le h)

/-- The codes a trip writes. -/
def L6 (i : grid0.Coords) (k : ℕ) (hk : k < 40) (f9 : BufTy.Contents (Elt F) scA.view.ty) : (n : ℕ) → n ≤ 10 → List (View.Piece (Elt F) S1280x1280 .i8)
  | 0, _ => []
  | n + 1, h => ⟨codeR k hk n h, codesC (rd9 i k hk f9 (2 * n) (by omega)) (rd9 i k hk f9 (2 * n + 1) (by omega))⟩ :: L6 i k hk f9 n (Nat.le_of_succ_le h)

/-- The scales a trip writes. -/
def L7 (arg7 : Memref sig .tc .vmem S1280x40 .f32) (arg1 : BitVec 32) (i : grid0.Coords) (k : ℕ) (hk : k < 40)
    (f7 : BufTy.Contents (Elt F) arg7.view.ty) (f9 : BufTy.Contents (Elt F) scA.view.ty) : List (View.Piece (Elt F) S1280x40 .f32) :=
  [⟨scaleR k hk, scaleAll arg1 (View.readAt (Elt F) arg7.view (scaleR k hk).toLoadRect f7) (rd9 i k hk f9) 20 (le_refl 20)⟩]

/-- The loop makes at most 40 trips. -/
theorem trips40 (k : Fin k0_t1_loop.trips) : k.val < 40 := Nat.lt_of_lt_of_le k.isLt k0_t1_abs.2.1

/-- Reading a chunk depends only on its offset. -/
theorem rd9_eq (i : grid0.Coords) (k : ℕ) (hk : k < 40) (n : ℕ) (hn : n < 20) {o : Fin 3 → ℕ} (h : o = ![(2 * (i 0).val + (i 1).val) % 2, 32 * k, 128 * n])
    (ho : ∀ a, o a + S1x32x128.size a ≤ S2x1280x2560.size a) (f9 : BufTy.Contents (Elt F) scA.view.ty) :
    rd9 i k hk f9 n hn = View.readAt (Elt F) scA.view (Rect.unit (s := S2x1280x2560) o S1x32x128.size ho).toLoadRect f9 := by
  subst h; rfl

/-- A chunk's write of its new error, at its offset. -/
theorem piece9 (i : grid0.Coords) (k : ℕ) (hk : k < 40) (n : ℕ) (hn : n < 20) {o : Fin 3 → ℕ} (h : o = ![(2 * (i 0).val + (i 1).val) % 2, 32 * k, 128 * n])
    (ho : ∀ a, o a + S1x32x128.size a ≤ S2x1280x2560.size a) (f9 : BufTy.Contents (Elt F) scA.view.ty)
    (v : Vec F S1x32x128 .f32) (hv : v = k0_pay5 (View.readAt (Elt F) scA.view (Rect.unit (s := S2x1280x2560) o S1x32x128.size ho).toLoadRect f9)) :
    (⟨Rect.unit (s := S2x1280x2560) o S1x32x128.size ho, v⟩ : View.Piece (Elt F) S2x1280x2560 .f32)
      = ⟨chunk9 i k hk n hn, k0_pay5 (rd9 i k hk f9 n hn)⟩ := by
  subst h; subst hv; rfl

/-- Two chunks' write of their codes, at its offset. -/
theorem piece6 (i : grid0.Coords) (k : ℕ) (hk : k < 40) (n : ℕ) (hn : n < 10) {o : Fin 2 → ℕ} (h : o = ![32 * k, 128 * n])
    (ho : ∀ a, o a + S32x128.size a ≤ S1280x1280.size a)
    {oa : Fin 3 → ℕ} (ha : oa = ![(2 * (i 0).val + (i 1).val) % 2, 32 * k, 128 * (2 * n)]) (hoa : ∀ a, oa a + S1x32x128.size a ≤ S2x1280x2560.size a)
    {ob : Fin 3 → ℕ} (hb : ob = ![(2 * (i 0).val + (i 1).val) % 2, 32 * k, 128 * (2 * n + 1)]) (hob : ∀ a, ob a + S1x32x128.size a ≤ S2x1280x2560.size a)
    (f9 : BufTy.Contents (Elt F) scA.view.ty) (v : IVec S32x128 8)
    (hv : v = codesC (View.readAt (Elt F) scA.view (Rect.unit (s := S2x1280x2560) oa S1x32x128.size hoa).toLoadRect f9)
      (View.readAt (Elt F) scA.view (Rect.unit (s := S2x1280x2560) ob S1x32x128.size hob).toLoadRect f9)) :
    (⟨Rect.unit (s := S1280x1280) o S32x128.size ho, v⟩ : View.Piece (Elt F) S1280x1280 .i8)
      = ⟨codeR k hk n hn, codesC (rd9 i k hk f9 (2 * n) (by omega)) (rd9 i k hk f9 (2 * n + 1) (by omega))⟩ := by
  subst h; subst ha; subst hb; subst hv; rfl

/-- Lists with equal heads and tails are equal. -/
theorem cons_eq {α : Type _} {a b : α} {l m : List α} (h : a = b) (h' : l = m) : a :: l = b :: m := by rw [h, h']

section
variable (𝒱 : Variants) (c : Dev nD) (bd : Option 𝒱.V) (i : grid0.Coords) (arg3 : Memref sig .tc .vmem S1024x1280 .bf16) (harg3 : arg3.IsWhole) (arg4 : Memref sig .tc .vmem S1024x2560 .bf16) (harg4 : arg4.IsWhole) (arg5 : Memref sig .tc .hbm S5120x5120 .f32) (harg5 : arg5.IsWhole) (arg6 : Memref sig .tc .vmem S1280x1280 .i8) (harg6 : arg6.IsWhole) (arg7 : Memref sig .tc .vmem S1280x40 .f32) (harg7 : arg7.IsWhole) (arg8 : Memref sig .tc .hbm S5120x5120 .f32) (harg8 : arg8.IsWhole) (harg9 : scA.IsWhole) (arg10 : DmaSems sig S2) (arg11 : DmaSems sig S2) (arg1 : BitVec 32) (v1 : BitVec 32) (v2 : BitVec 32) (k0_h6 : k0_cond6 i = 1#1) (k : Fin k0_t1_loop.trips)

/-- The writes of a trip to the accumulator are the twenty new errors. -/
theorem tripS_L9 (f6 : BufTy.Contents (Elt F) arg6.view.ty) (f7 : BufTy.Contents (Elt F) arg7.view.ty) (f9 : BufTy.Contents (Elt F) scA.view.ty) :
    (tripS (F := F) 𝒱 c bd i arg3 harg3 arg4 harg4 arg5 harg5 arg6 harg6 arg7 harg7 arg8 harg8 harg9 arg10 arg11 arg1 v1 v2 k0_h6 k).2.2.1 f6 f7 f9
      = L9 i k.val (trips40 k) f9 20 (le_refl 20) := by
  unfold tripS
  dsimp only [L9]
  refine cons_eq (piece9 i k.val (trips40 k) 19 _ (k0_off43_eq i k) _ f9 _ rfl) ?_
  refine cons_eq (piece9 i k.val (trips40 k) 18 _ (k0_off42_eq i k) _ f9 _ rfl) ?_
  refine cons_eq (piece9 i k.val (trips40 k) 17 _ (k0_off40_eq i k) _ f9 _ rfl) ?_
  refine cons_eq (piece9 i k.val (trips40 k) 16 _ (k0_off39_eq i k) _ f9 _ rfl) ?_
  refine cons_eq (piece9 i k.val (trips40 k) 15 _ (k0_off37_eq i k) _ f9 _ rfl) ?_
  refine cons_eq (piece9 i k.val (trips40 k) 14 _ (k0_off36_eq i k) _ f9 _ rfl) ?_
  refine cons_eq (piece9 i k.val (trips40 k) 13 _ (k0_off34_eq i k) _ f9 _ rfl) ?_
  refine cons_eq (piece9 i k.val (trips40 k) 12 _ (k0_off33_eq i k) _ f9 _ rfl) ?_
  refine cons_eq (piece9 i k.val (trips40 k) 11 _ (k0_off31_eq i k) _ f9 _ rfl) ?_
  refine cons_eq (piece9 i k.val (trips40 k) 10 _ (k0_off30_eq i k) _ f9 _ rfl) ?_
  refine cons_eq (piece9 i k.val (trips40 k) 9 _ (k0_off28_eq i k) _ f9 _ rfl) ?_
  refine cons_eq (piece9 i k.val (trips40 k) 8 _ (k0_off27_eq i k) _ f9 _ rfl) ?_
  refine cons_eq (piece9 i k.val (trips40 k) 7 _ (k0_off25_eq i k) _ f9 _ rfl) ?_
  refine cons_eq (piece9 i k.val (trips40 k) 6 _ (k0_off24_eq i k) _ f9 _ rfl) ?_
  refine cons_eq (piece9 i k.val (trips40 k) 5 _ (k0_off22_eq i k) _ f9 _ rfl) ?_
  refine cons_eq (piece9 i k.val (trips40 k) 4 _ (k0_off21_eq i k) _ f9 _ rfl) ?_
  refine cons_eq (piece9 i k.val (trips40 k) 3 _ (k0_off19_eq i k) _ f9 _ rfl) ?_
  refine cons_eq (piece9 i k.val (trips40 k) 2 _ (k0_off18_eq i k) _ f9 _ rfl) ?_
  refine cons_eq (piece9 i k.val (trips40 k) 1 _ (k0_off16_eq i k) _ f9 _ rfl) ?_
  refine cons_eq (piece9 i k.val (trips40 k) 0 _ (k0_off15_eq i k) _ f9 _ rfl) ?_
  rfl

/-- The writes of a trip to the codes block are the ten packed pairs. -/
theorem tripS_L6 (f6 : BufTy.Contents (Elt F) arg6.view.ty) (f7 : BufTy.Contents (Elt F) arg7.view.ty) (f9 : BufTy.Contents (Elt F) scA.view.ty) :
    (tripS (F := F) 𝒱 c bd i arg3 harg3 arg4 harg4 arg5 harg5 arg6 harg6 arg7 harg7 arg8 harg8 harg9 arg10 arg11 arg1 v1 v2 k0_h6 k).1 f6 f7 f9
      = L6 i k.val (trips40 k) f9 10 (le_refl 10) := by
  unfold tripS
  dsimp only [L6]
  refine cons_eq (piece6 i k.val (trips40 k) 9 _ (k0_off44_eq k) _ (k0_off42_eq i k) (k0_off42_inb i k k0_h6) (k0_off43_eq i k) (k0_off43_inb i k k0_h6) f9 _ rfl) ?_
  refine cons_eq (piece6 i k.val (trips40 k) 8 _ (k0_off41_eq k) _ (k0_off39_eq i k) (k0_off39_inb i k k0_h6) (k0_off40_eq i k) (k0_off40_inb i k k0_h6) f9 _ rfl) ?_
  refine cons_eq (piece6 i k.val (trips40 k) 7 _ (k0_off38_eq k) _ (k0_off36_eq i k) (k0_off36_inb i k k0_h6) (k0_off37_eq i k) (k0_off37_inb i k k0_h6) f9 _ rfl) ?_
  refine cons_eq (piece6 i k.val (trips40 k) 6 _ (k0_off35_eq k) _ (k0_off33_eq i k) (k0_off33_inb i k k0_h6) (k0_off34_eq i k) (k0_off34_inb i k k0_h6) f9 _ rfl) ?_
  refine cons_eq (piece6 i k.val (trips40 k) 5 _ (k0_off32_eq k) _ (k0_off30_eq i k) (k0_off30_inb i k k0_h6) (k0_off31_eq i k) (k0_off31_inb i k k0_h6) f9 _ rfl) ?_
  refine cons_eq (piece6 i k.val (trips40 k) 4 _ (k0_off29_eq k) _ (k0_off27_eq i k) (k0_off27_inb i k k0_h6) (k0_off28_eq i k) (k0_off28_inb i k k0_h6) f9 _ rfl) ?_
  refine cons_eq (piece6 i k.val (trips40 k) 3 _ (k0_off26_eq k) _ (k0_off24_eq i k) (k0_off24_inb i k k0_h6) (k0_off25_eq i k) (k0_off25_inb i k k0_h6) f9 _ rfl) ?_
  refine cons_eq (piece6 i k.val (trips40 k) 2 _ (k0_off23_eq k) _ (k0_off21_eq i k) (k0_off21_inb i k k0_h6) (k0_off22_eq i k) (k0_off22_inb i k k0_h6) f9 _ rfl) ?_
  refine cons_eq (piece6 i k.val (trips40 k) 1 _ (k0_off20_eq k) _ (k0_off18_eq i k) (k0_off18_inb i k k0_h6) (k0_off19_eq i k) (k0_off19_inb i k k0_h6) f9 _ rfl) ?_
  refine cons_eq (piece6 i k.val (trips40 k) 0 _ (k0_off17_eq k) _ (k0_off15_eq i k) (k0_off15_inb i k k0_h6) (k0_off16_eq i k) (k0_off16_inb i k k0_h6) f9 _ rfl) ?_
  rfl

/-- The write of a trip to the scales block is the block with all twenty scales entered. -/
theorem tripS_L7 (f6 : BufTy.Contents (Elt F) arg6.view.ty) (f7 : BufTy.Contents (Elt F) arg7.view.ty) (f9 : BufTy.Contents (Elt F) scA.view.ty) :
    (tripS (F := F) 𝒱 c bd i arg3 harg3 arg4 harg4 arg5 harg5 arg6 harg6 arg7 harg7 arg8 harg8 harg9 arg10 arg11 arg1 v1 v2 k0_h6 k).2.1 f6 f7 f9
      = L7 arg7 arg1 i k.val (trips40 k) f7 f9 := by
  unfold tripS
  refine cons_eq ?_ rfl
  have h : ∀ (o : Fin 2 → ℕ) (ho : ∀ a, o a + S32x40.size a ≤ S1280x40.size a) (e : o = ![32 * k.val, 0]) (v : FVec F S32x40 .f32),
      v = scaleAll arg1 (View.readAt (Elt F) arg7.view (Rect.unit (s := S1280x40) o S32x40.size ho).toLoadRect f7) (rd9 i k.val (trips40 k) f9) 20 (le_refl 20)
      → (⟨Rect.unit (s := S1280x40) o S32x40.size ho, v⟩ : View.Piece (Elt F) S1280x40 .f32)
        = ⟨scaleR k.val (trips40 k), scaleAll arg1 (View.readAt (Elt F) arg7.view (scaleR k.val (trips40 k)).toLoadRect f7) (rd9 i k.val (trips40 k) f9) 20 (le_refl 20)⟩ := by
    intro o ho e v hv; subst e; subst hv; rfl
  refine h _ _ (k0_off14_eq k) _ ?_
  dsimp only [scaleAll]
  rw [rd9_eq i k.val (trips40 k) 0 _ (k0_off15_eq i k) (k0_off15_inb i k k0_h6) f9]
  rw [rd9_eq i k.val (trips40 k) 1 _ (k0_off16_eq i k) (k0_off16_inb i k k0_h6) f9]
  rw [rd9_eq i k.val (trips40 k) 2 _ (k0_off18_eq i k) (k0_off18_inb i k k0_h6) f9]
  rw [rd9_eq i k.val (trips40 k) 3 _ (k0_off19_eq i k) (k0_off19_inb i k k0_h6) f9]
  rw [rd9_eq i k.val (trips40 k) 4 _ (k0_off21_eq i k) (k0_off21_inb i k k0_h6) f9]
  rw [rd9_eq i k.val (trips40 k) 5 _ (k0_off22_eq i k) (k0_off22_inb i k k0_h6) f9]
  rw [rd9_eq i k.val (trips40 k) 6 _ (k0_off24_eq i k) (k0_off24_inb i k k0_h6) f9]
  rw [rd9_eq i k.val (trips40 k) 7 _ (k0_off25_eq i k) (k0_off25_inb i k k0_h6) f9]
  rw [rd9_eq i k.val (trips40 k) 8 _ (k0_off27_eq i k) (k0_off27_inb i k k0_h6) f9]
  rw [rd9_eq i k.val (trips40 k) 9 _ (k0_off28_eq i k) (k0_off28_inb i k k0_h6) f9]
  rw [rd9_eq i k.val (trips40 k) 10 _ (k0_off30_eq i k) (k0_off30_inb i k k0_h6) f9]
  rw [rd9_eq i k.val (trips40 k) 11 _ (k0_off31_eq i k) (k0_off31_inb i k k0_h6) f9]
  rw [rd9_eq i k.val (trips40 k) 12 _ (k0_off33_eq i k) (k0_off33_inb i k k0_h6) f9]
  rw [rd9_eq i k.val (trips40 k) 13 _ (k0_off34_eq i k) (k0_off34_inb i k k0_h6) f9]
  rw [rd9_eq i k.val (trips40 k) 14 _ (k0_off36_eq i k) (k0_off36_inb i k k0_h6) f9]
  rw [rd9_eq i k.val (trips40 k) 15 _ (k0_off37_eq i k) (k0_off37_inb i k k0_h6) f9]
  rw [rd9_eq i k.val (trips40 k) 16 _ (k0_off39_eq i k) (k0_off39_inb i k k0_h6) f9]
  rw [rd9_eq i k.val (trips40 k) 17 _ (k0_off40_eq i k) (k0_off40_inb i k k0_h6) f9]
  rw [rd9_eq i k.val (trips40 k) 18 _ (k0_off42_eq i k) (k0_off42_inb i k k0_h6) f9]
  rw [rd9_eq i k.val (trips40 k) 19 _ (k0_off43_eq i k) (k0_off43_inb i k k0_h6) f9]
  rfl

/-- One trip, at its contents. -/
theorem trip_spec (E : Set ℕ) (f6 : BufTy.Contents (Elt F) arg6.view.ty) (f7 : BufTy.Contents (Elt F) arg7.view.ty) (f9 : BufTy.Contents (Elt F) scA.view.ty) :
    TripS (F := F) c i arg6 arg7 f6 f7 f9
      ⊢ wp frame (wpE (defs₀ (F := F)) 𝒱 (c : Thread nD τ) bd) E (k0_t1_body (F := F) i arg3 harg3 arg4 harg4 arg5 harg5 arg6 harg6 arg7 harg7 arg8 harg8 scA harg9 arg10 arg11 arg1 v1 v2 k0_h6 k PUnit.unit)
          (fun _ => TripS (F := F) c i arg6 arg7 (arg6.view.writes (Elt F) f6 (L6 i k.val (trips40 k) f9 10 (le_refl 10)))
            (arg7.view.writes (Elt F) f7 (L7 arg7 arg1 i k.val (trips40 k) f7 f9)) (scA.view.writes (Elt F) f9 (L9 i k.val (trips40 k) f9 20 (le_refl 20)))) := by
  rw [← tripS_L6 𝒱 c bd i arg3 harg3 arg4 harg4 arg5 harg5 arg6 harg6 arg7 harg7 arg8 harg8 harg9 arg10 arg11 arg1 v1 v2 k0_h6 k f6 f7 f9,
    ← tripS_L7 𝒱 c bd i arg3 harg3 arg4 harg4 arg5 harg5 arg6 harg6 arg7 harg7 arg8 harg8 harg9 arg10 arg11 arg1 v1 v2 k0_h6 k f6 f7 f9,
    ← tripS_L9 𝒱 c bd i arg3 harg3 arg4 harg4 arg5 harg5 arg6 harg6 arg7 harg7 arg8 harg8 harg9 arg10 arg11 arg1 v1 v2 k0_h6 k f6 f7 f9]
  exact (tripS (F := F) 𝒱 c bd i arg3 harg3 arg4 harg4 arg5 harg5 arg6 harg6 arg7 harg7 arg8 harg8 harg9 arg10 arg11 arg1 v1 v2 k0_h6 k).2.2.2 E f6 f7 f9

end

end Cert.KernelIdeal.Hand

end
-- ==== Proof.LoopVal.lean ====
/-
  Hand-written. What the quantising loop leaves, element by element: the codes, the scales and the remainders of a block of
  accumulated gradient, each a function of the groups of 128 lanes it lies in, and the state after any number of trips.
-/
module

public import proofs.«01_k».proof.Proof.TripSpec
public import proofs.«01_k».proof.Proof.Geo
public import Idealize.ShloMosaic.Lib.Pointwise
public import Idealize.ShloMosaic.Lib.WritesUnit

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The outcomes -/

/-- Rows `32k …` and lanes `128c …` of a block. -/
def grp (X : Blk F) (k : Fin 40) (c : Fin 20) : Vec F S1x32x128 .f32 := fun j =>
  X (ix2 ⟨32 * k.val + (j 1).val, by have h : (j 1).val < 32 := (j 1).isLt; omega⟩ ⟨128 * c.val + (j 2).val, by have h : (j 2).val < 128 := (j 2).isLt; omega⟩)

/-- The packed codes of a block. -/
def CODE (X : Blk F) : Vec F S1280x1280 .i8 := fun y =>
  codesC (grp X ⟨(y 0).val / 32, by have h : (y 0).val < 1280 := (y 0).isLt; omega⟩ ⟨2 * ((y 1).val / 128), by have h : (y 1).val < 1280 := (y 1).isLt; omega⟩)
    (grp X ⟨(y 0).val / 32, by have h : (y 0).val < 1280 := (y 0).isLt; omega⟩ ⟨2 * ((y 1).val / 128) + 1, by have h : (y 1).val < 1280 := (y 1).isLt; omega⟩)
    (ix2 ⟨(y 0).val % 32, Nat.mod_lt _ (by decide)⟩ ⟨(y 1).val % 128, Nat.mod_lt _ (by decide)⟩)

/-- The scales of a block, at lanes of either half of the scales block. -/
def SCALE (X : Blk F) : Vec F S1280x40 .f32 := fun y =>
  k0_pay3 (grp X ⟨(y 0).val / 32, by have h : (y 0).val < 1280 := (y 0).isLt; omega⟩ ⟨(y 1).val % 20, Nat.mod_lt _ (by decide)⟩)
    (ix2 ⟨(y 0).val % 32, Nat.mod_lt _ (by decide)⟩ (0 : Fin 1))

/-- The remainders of a block. -/
def NEWERR (X : Blk F) : Blk F := fun y =>
  k0_pay5 (grp X ⟨(y 0).val / 32, by have h : (y 0).val < 1280 := (y 0).isLt; omega⟩ ⟨(y 1).val / 128, by have h : (y 1).val < 2560 := (y 1).isLt; omega⟩)
    (ix3 (0 : Fin 1) ⟨(y 0).val % 32, Nat.mod_lt _ (by decide)⟩ ⟨(y 1).val % 128, Nat.mod_lt _ (by decide)⟩)

/-- After `n` trips: the slot, the codes block, the scales block. -/
def B9 (n : ℕ) (X : Blk F) : Blk F := fun y => if (y 0).val < 32 * n then NEWERR X y else X y
def C6 (n : ℕ) (X : Blk F) (Y : Vec F S1280x1280 .i8) : Vec F S1280x1280 .i8 := fun y => if (y 0).val < 32 * n then CODE X y else Y y
def C7 (j n : ℕ) (X : Blk F) (Y : Vec F S1280x40 .f32) : Vec F S1280x40 .f32 :=
  fun y => if (y 0).val < 32 * n ∧ (y 1).val / 20 = j then SCALE X y else Y y

/-- Before the first trip the slot holds the block. -/
theorem B9_zero (X : Blk F) : B9 0 X = X := by funext y; simp [B9]
/-- Before the first trip the codes buffer is as found. -/
theorem C6_zero (X : Blk F) (Y : Vec F S1280x1280 .i8) : C6 0 X Y = Y := by funext y; simp [C6]
/-- Before the first trip the scales buffer is as found. -/
theorem C7_zero (j : ℕ) (X : Blk F) (Y : Vec F S1280x40 .f32) : C7 j 0 X Y = Y := by funext y; simp [C7]
/-- After all trips the slot holds the block's new error. -/
theorem B9_end (X : Blk F) : B9 40 X = NEWERR X := by
  funext y; have h : (y 0).val < 1280 := (y 0).isLt; exact if_pos h
/-- After all trips the codes buffer holds the block's codes. -/
theorem C6_end (X : Blk F) (Y : Vec F S1280x1280 .i8) : C6 40 X Y = CODE X := by
  funext y; have h : (y 0).val < 1280 := (y 0).isLt; exact if_pos h
/-- After all trips the scales buffer holds the block's scales in the lanes of its column, and elsewhere what it held. -/
theorem C7_end (j : ℕ) (X : Blk F) (Y : Vec F S1280x40 .f32) : C7 j 40 X Y = fun y => if (y 1).val / 20 = j then SCALE X y else Y y := by
  funext y; have h : (y 0).val < 1280 := (y 0).isLt
  unfold C7
  have h' : (y 0).val < 32 * 40 := h
  simp [h']

/-! ## A trip's reads and writes -/

section
variable (i : grid0.Coords) (k : ℕ) (hk : k < 40) (X : Blk F)

/-- What a trip reads: its rows are as they were. -/
theorem rd9_at (n : ℕ) (hn : n < 20) : rd9 i k hk (cb (B9 k X)) n hn = grp X ⟨k, hk⟩ ⟨n, hn⟩ := by
  funext j
  have h1 : (j 1).val < 32 := (j 1).isLt
  show cb (B9 k X) ((chunk9 i k hk n hn).emb j) = _
  unfold cb B9
  have e1 : (((chunk9 i k hk n hn).emb j : S2x1280x2560.Idx) 1).val = 32 * k + (j 1).val := by
    show 32 * k + 1 * (j 1).val = _; omega
  have e2 : (((chunk9 i k hk n hn).emb j : S2x1280x2560.Idx) 2).val = 128 * n + (j 2).val := by
    show 128 * n + 1 * (j 2).val = _; omega
  refine (if_neg (show ¬ (((chunk9 i k hk n hn).emb j : S2x1280x2560.Idx) 1).val < 32 * k by rw [e1]; omega)).trans ?_
  unfold grp
  refine congrArg X ?_
  congr 1
  · exact Fin.ext e1
  · exact Fin.ext e2

/-- A chunk depends only on the numbers of its row group and column. -/
theorem grp_congr {k k' : Fin 40} {c c' : Fin 20} (h : k.val = k'.val) (h' : c.val = c'.val) : grp X k c = grp X k' c' := by
  rw [Fin.ext h, Fin.ext h']

/-- The remainders a trip writes. -/
theorem L9_at (n : ℕ) (hn : n ≤ 20) (x : S2x1280x2560.Idx) (hx : (x 0).val = par i) :
    scA.view.read (Elt F) (scA.view.writes (Elt F) (cb (B9 k X)) (L9 i k hk (cb (B9 k X)) n hn)) x
      = if (x 1).val / 32 = k ∧ (x 2).val < 128 * n then NEWERR X (ix2 (x 1) (x 2)) else cb (B9 k X) x := by
  induction n with
  | zero => rw [if_neg (by omega)]; rfl
  | succ n ih =>
    unfold L9
    rw [View.read_writes_cons_unit scA.view _ _ _ _ x rfl]
    split
    · next h =>
      have h1 := h 1; have h2 := h 2
      change 32 * k ≤ (x 1).val ∧ (x 1).val < 32 * k + 32 at h1
      change 128 * n ≤ (x 2).val ∧ (x 2).val < 128 * n + 128 at h2
      rw [if_pos (by constructor <;> omega), rd9_at]
      unfold NEWERR
      rw [grp_congr X (k := ⟨k, hk⟩) (c := ⟨n, hn⟩) (k' := ⟨(ix2 (x 1) (x 2) : S1280x2560.Idx) 0 / 32, _⟩) (c' := ⟨(ix2 (x 1) (x 2) : S1280x2560.Idx) 1 / 128, _⟩)
        (by show k = (x 1).val / 32; omega) (by show n = (x 2).val / 128; omega)]
      refine congrArg _ (funext fun a => ?_)
      fin_cases a
      · exact Fin.ext (by show (x 0).val - par i = 0; omega)
      · exact Fin.ext (by show (x 1).val - 32 * k = (x 1).val % 32; omega)
      · exact Fin.ext (by show (x 2).val - 128 * n = (x 2).val % 128; omega)
    · next h =>
      rw [ih]
      by_cases hc : (x 1).val / 32 = k ∧ (x 2).val < 128 * n
      · rw [if_pos hc, if_pos ⟨hc.1, by omega⟩]
      · rw [if_neg hc, if_neg]
        rintro ⟨ha, hb⟩
        refine h fun a => ?_
        fin_cases a
        · show par i ≤ (x 0).val ∧ (x 0).val < par i + 1; omega
        · show 32 * k ≤ (x 1).val ∧ (x 1).val < 32 * k + 32; omega
        · show 128 * n ≤ (x 2).val ∧ (x 2).val < 128 * n + 128
          have : ¬ (x 2).val < 128 * n := fun h' => hc ⟨ha, h'⟩
          omega

/-- The writes of a trip bring the slot from one trip's contents to the next's. -/
theorem L9_all (x : S2x1280x2560.Idx) (hx : x ∈ slotSet (par i)) :
    scA.view.writes (Elt F) (cb (B9 k X)) (L9 i k hk (cb (B9 k X)) 20 (le_refl 20)) x = cb (B9 (k + 1) X) x := by
  have h := L9_at i k hk X 20 (le_refl 20) x (mem_slotSet.mp hx)
  refine Eq.trans (show _ = scA.view.read (Elt F) _ x from rfl) (h.trans ?_)
  have h2 : (x 2).val < 2560 := (x 2).isLt
  unfold cb B9
  show _ = if (x 1).val < 32 * (k + 1) then NEWERR X (ix2 (x 1) (x 2)) else X (ix2 (x 1) (x 2))
  show (if (x 1).val / 32 = k ∧ (x 2).val < 128 * 20 then NEWERR X (ix2 (x 1) (x 2)) else if (x 1).val < 32 * k then NEWERR X (ix2 (x 1) (x 2)) else X (ix2 (x 1) (x 2))) = _
  by_cases ha : (x 1).val / 32 = k
  · rw [if_pos ⟨ha, h2⟩, if_pos (by omega)]
  · rw [if_neg (fun hc => ha hc.1)]
    by_cases hb : (x 1).val < 32 * k
    · rw [if_pos hb, if_pos (by omega)]
    · rw [if_neg hb, if_neg (by omega)]

/-- The codes a trip writes. -/
theorem L6_at (m : Memref sig .tc .vmem S1280x1280 .i8) (f6 : BufTy.Contents (Elt F) m.view.ty) (n : ℕ) (hn : n ≤ 10) (y : S1280x1280.Idx) :
    m.view.read (Elt F) (m.view.writes (Elt F) f6 (L6 i k hk (cb (B9 k X)) n hn)) y
      = if (y 0).val / 32 = k ∧ (y 1).val < 128 * n then CODE X y else m.view.read (Elt F) f6 y := by
  induction n with
  | zero => rw [if_neg (by omega)]; rfl
  | succ n ih =>
    unfold L6
    rw [View.read_writes_cons_unit m.view _ _ _ _ y rfl]
    split
    · next h =>
      have h1 := h 0; have h2 := h 1
      change 32 * k ≤ (y 0).val ∧ (y 0).val < 32 * k + 32 at h1
      change 128 * n ≤ (y 1).val ∧ (y 1).val < 128 * n + 128 at h2
      rw [if_pos (by constructor <;> omega), rd9_at, rd9_at]
      unfold CODE
      rw [grp_congr X (k := ⟨k, hk⟩) (c := ⟨2 * n, _⟩) (k' := ⟨(y 0).val / 32, _⟩) (c' := ⟨2 * ((y 1).val / 128), _⟩)
        (by show k = (y 0).val / 32; omega) (by show 2 * n = 2 * ((y 1).val / 128); omega),
        grp_congr X (k := ⟨k, hk⟩) (c := ⟨2 * n + 1, _⟩) (k' := ⟨(y 0).val / 32, _⟩) (c' := ⟨2 * ((y 1).val / 128) + 1, _⟩)
        (by show k = (y 0).val / 32; omega) (by show 2 * n + 1 = 2 * ((y 1).val / 128) + 1; omega)]
      refine congrArg _ (funext fun a => ?_)
      fin_cases a
      · exact Fin.ext (by show (y 0).val - 32 * k = (y 0).val % 32; omega)
      · exact Fin.ext (by show (y 1).val - 128 * n = (y 1).val % 128; omega)
    · next h =>
      rw [ih]
      by_cases hc : (y 0).val / 32 = k ∧ (y 1).val < 128 * n
      · rw [if_pos hc, if_pos ⟨hc.1, by omega⟩]
      · rw [if_neg hc, if_neg]
        rintro ⟨ha, hb⟩
        refine h fun a => ?_
        fin_cases a
        · show 32 * k ≤ (y 0).val ∧ (y 0).val < 32 * k + 32; omega
        · show 128 * n ≤ (y 1).val ∧ (y 1).val < 128 * n + 128
          have : ¬ (y 1).val < 128 * n := fun h' => hc ⟨ha, h'⟩
          omega

/-- The writes of a trip bring the codes buffer from one trip's contents to the next's. -/
theorem L6_all (m : Memref sig .tc .vmem S1280x1280 .i8) (f6 : BufTy.Contents (Elt F) m.view.ty) (Y : Vec F S1280x1280 .i8)
    (hf : m.view.read (Elt F) f6 = C6 k X Y) :
    m.view.read (Elt F) (m.view.writes (Elt F) f6 (L6 i k hk (cb (B9 k X)) 10 (le_refl 10))) = C6 (k + 1) X Y := by
  funext y
  rw [L6_at, hf]
  have h2 : (y 1).val < 1280 := (y 1).isLt
  unfold C6
  by_cases ha : (y 0).val / 32 = k
  · rw [if_pos ⟨ha, h2⟩, if_pos (by omega)]
  · rw [if_neg (fun hc => ha hc.1)]
    by_cases hb : (y 0).val < 32 * k
    · rw [if_pos hb, if_pos (by omega)]
    · rw [if_neg hb, if_neg (by omega)]

/-- The lane words of the scales block: a lane is entered for group `n` of half `j` exactly at lane `20 j + n`. -/
theorem lane_word : ∀ (j : Fin 2) (n : Fin 20) (l : Fin 40),
    IntOp.cmpi .eq (IntOp.subi (BitVec.ofNat 32 l.val) (Scalar.muli (BitVec.ofNat 32 j.val) 20#32)) (BitVec.ofNat 32 n.val)
      = if l.val / 20 = j.val ∧ l.val % 20 = n.val then 1#1 else 0#1 := by
  decide +kernel

/-- Entering a chunk's scales changes exactly the chunk's lane. -/
theorem scaleStep_at (j : Fin 2) (n : Fin 20) (s : FVec F S32x40 .f32) (v : Vec F S1x32x128 .f32) (r : Fin 32) (l : Fin 40) :
    scaleStep (BitVec.ofNat 32 j.val) (BitVec.ofNat 32 n.val) s v (ix2 r l)
      = if l.val / 20 = j.val ∧ l.val % 20 = n.val then k0_pay3 v (ix2 r (0 : Fin 1)) else s (ix2 r l) := by
  unfold scaleStep k0_pay151
  pointwise
  rw [lane_word]
  split <;> rfl

/-- The scales with `n` groups entered, at an index. -/
theorem scaleAll_at (j : Fin 2) (s : FVec F S32x40 .f32) (v : (c : ℕ) → c < 20 → Vec F S1x32x128 .f32) (n : ℕ) (hn : n ≤ 20) (r : Fin 32) (l : Fin 40) :
    scaleAll (BitVec.ofNat 32 j.val) s v n hn (ix2 r l)
      = if l.val / 20 = j.val ∧ l.val % 20 < n then k0_pay3 (v (l.val % 20) (Nat.mod_lt _ (by decide))) (ix2 r (0 : Fin 1)) else s (ix2 r l) := by
  induction n with
  | zero =>
    rw [if_neg (by omega)]
    unfold scaleAll
    pointwise
  | succ n ih =>
    unfold scaleAll
    rw [scaleStep_at j ⟨n, hn⟩, ih]
    by_cases ha : l.val / 20 = j.val
    · by_cases hb : l.val % 20 = n
      · rw [if_pos ⟨ha, hb⟩, if_pos ⟨ha, by omega⟩]
        subst hb; rfl
      · rw [if_neg (fun hc => hb hc.2)]
        by_cases hc : l.val % 20 < n
        · rw [if_pos ⟨ha, hc⟩, if_pos ⟨ha, by omega⟩]
        · rw [if_neg (fun h => hc h.2), if_neg (fun h => hc (by omega))]
    · rw [if_neg (fun hc => ha hc.1), if_neg (fun hc => ha hc.1), if_neg (fun hc => ha hc.1)]

/-- The scales a trip writes. -/
theorem L7_all (j : Fin 2) (m : Memref sig .tc .vmem S1280x40 .f32) (f7 : BufTy.Contents (Elt F) m.view.ty) (Y : Vec F S1280x40 .f32)
    (hf : m.view.read (Elt F) f7 = C7 j.val k X Y) :
    m.view.read (Elt F) (m.view.writes (Elt F) f7 (L7 m (BitVec.ofNat 32 j.val) i k hk f7 (cb (B9 k X)))) = C7 j.val (k + 1) X Y := by
  funext y
  have y0 : (y 0).val < 1280 := (y 0).isLt
  have y1 : (y 1).val < 40 := (y 1).isLt
  unfold L7
  rw [View.read_writes_cons_unit m.view _ _ _ _ y rfl]
  split
  · next h =>
    have h1 := h 0
    change 32 * k ≤ (y 0).val ∧ (y 0).val < 32 * k + 32 at h1
    have hi : (Rect.unitLocal (s := S1280x40) (off := ![32 * k, 0]) (size := S32x40.size) y h : S32x40.Idx)
        = ix2 ⟨(y 0).val % 32, Nat.mod_lt _ (by decide)⟩ ⟨(y 1).val, y1⟩ := by
      funext a
      fin_cases a
      · exact Fin.ext (by show (y 0).val - 32 * k = (y 0).val % 32; omega)
      · exact Fin.ext (by show (y 1).val - 0 = (y 1).val; omega)
    refine (congrArg _ hi).trans ?_
    refine (scaleAll_at j _ _ 20 (le_refl 20) _ _).trans ?_
    have hr : (View.readAt (Elt F) m.view (scaleR k hk).toLoadRect f7 : Vec F S32x40 .f32) (ix2 ⟨(y 0).val % 32, Nat.mod_lt _ (by decide)⟩ ⟨(y 1).val, y1⟩) = Y y := by
      have e : (scaleR k hk).emb (ix2 ⟨(y 0).val % 32, Nat.mod_lt _ (by decide)⟩ ⟨(y 1).val, y1⟩ : S32x40.Idx) = y := by
        funext a
        fin_cases a
        · exact Fin.ext (by show 32 * k + 1 * ((y 0).val % 32) = (y 0).val; omega)
        · exact Fin.ext (by show 0 + 1 * (y 1).val = (y 1).val; omega)
      show m.view.read (Elt F) f7 ((scaleR k hk).emb (ix2 ⟨(y 0).val % 32, Nat.mod_lt _ (by decide)⟩ ⟨(y 1).val, y1⟩ : S32x40.Idx)) = _
      rw [e, hf]
      exact if_neg (fun hc => by omega)
    by_cases hj : (y 1).val / 20 = j.val
    · rw [if_pos ⟨hj, Nat.mod_lt _ (by decide)⟩, rd9_at]
      refine Eq.symm ((if_pos ⟨by omega, hj⟩).trans ?_)
      unfold SCALE
      rw [grp_congr X (k := ⟨(y 0).val / 32, _⟩) (c := ⟨(y 1).val % 20, _⟩) (k' := ⟨k, hk⟩) (c' := ⟨(y 1).val % 20, Nat.mod_lt _ (by decide)⟩)
        (by show (y 0).val / 32 = k; omega) rfl]
    · rw [if_neg (fun hc => hj hc.1), hr]
      exact (if_neg (fun hc => hj hc.2)).symm
  · next h =>
    show m.view.read (Elt F) f7 y = _
    rw [hf]
    unfold C7
    have hn : ¬ ((y 0).val / 32 = k) := fun hc => h fun a => by
      fin_cases a
      · show 32 * k ≤ (y 0).val ∧ (y 0).val < 32 * k + 32; omega
      · show 0 ≤ (y 1).val ∧ (y 1).val < 0 + 40; omega
    by_cases hb : (y 0).val < 32 * k ∧ (y 1).val / 20 = j.val
    · rw [if_pos hb, if_pos ⟨by omega, hb.2⟩]
    · rw [if_neg hb, if_neg (fun hc => hb ⟨by omega, hc.2⟩)]

end

end Cert.KernelIdeal.Hand

end
-- ==== Proof.Pts.lean ====
/-
  Hand-written. Where the kernel's copies go and which branches it takes, point by point.
-/
module

public import proofs.«01_k».proof.Proof.Geo
public import proofs.«01_k».proof.Proof.Gen.KernelIdeal.Points

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic

/-- The block of a point. -/
abbrev bi (i : grid0.Coords) : ℕ := 2 * (i 0).val + (i 1).val

/-- The first condition: the first step of a block. -/
theorem cond1_iff : ∀ i : grid0.Coords, k0_cond1 i = 1#1 ↔ (i 2).val = 0 := by decide +kernel
/-- The second condition: the first block. -/
theorem cond2_iff : ∀ i : grid0.Coords, k0_cond2 i = 1#1 ↔ bi i = 0 := by decide +kernel
/-- The third condition: the second step of a block. -/
theorem cond3_iff : ∀ i : grid0.Coords, k0_cond3 i = 1#1 ↔ (i 2).val = 1 := by decide +kernel
/-- The fourth condition: there is a block before. -/
theorem cond4_iff : ∀ i : grid0.Coords, k0_cond4 i = 1#1 ↔ 0 < bi i := by decide +kernel
/-- The fifth condition: there is a block after. -/
theorem cond5_iff : ∀ i : grid0.Coords, k0_cond5 i = 1#1 ↔ bi i + 1 < 8 := by decide +kernel
/-- The sixth condition: the last step of a block. -/
theorem cond6_iff : ∀ i : grid0.Coords, k0_cond6 i = 1#1 ↔ (i 2).val = 37 := by decide +kernel
/-- The seventh condition: the last block. -/
theorem cond7_iff : ∀ i : grid0.Coords, k0_cond7 i = 1#1 ↔ bi i = 7 := by decide +kernel

/-- The semaphore of the block's own slot. -/
theorem off1_at : ∀ i : grid0.Coords, k0_off1 i = ![bi i % 2] := by decide +kernel
/-- The block's own slot. -/
theorem off2_at : ∀ i : grid0.Coords, k0_off2 i = ![bi i % 2, 0, 0] := by decide +kernel
/-- The block's own place in the matrix. -/
theorem off3_at : ∀ i : grid0.Coords, k0_off3 i = ![1280 * (bi i / 2), 2560 * (bi i % 2)] := by decide +kernel
/-- The semaphore of the block's own slot. -/
theorem off4_at : ∀ i : grid0.Coords, k0_off4 i = ![bi i % 2] := by decide +kernel
/-- The block's own slot. -/
theorem off5_at : ∀ i : grid0.Coords, k0_off5 i = ![bi i % 2, 0, 0] := by decide +kernel
/-- The block's own place in the matrix. -/
theorem off6_at : ∀ i : grid0.Coords, k0_off6 i = ![1280 * (bi i / 2), 2560 * (bi i % 2)] := by decide +kernel
/-- The block's own slot. -/
theorem off7_at : ∀ i : grid0.Coords, k0_off7 i = ![bi i % 2, 0, 0] := by decide +kernel
/-- The semaphore of the slot of the block before. -/
theorem off8_at : ∀ i : grid0.Coords, 0 < bi i → k0_off8 i = ![(bi i - 1) % 2] := by decide +kernel
/-- The place in the matrix of the block before. -/
theorem off9_at : ∀ i : grid0.Coords, 0 < bi i → k0_off9 i = ![1280 * ((bi i - 1) / 2), 2560 * ((bi i - 1) % 2)] := by decide +kernel
/-- The slot of the block before. -/
theorem off10_at : ∀ i : grid0.Coords, 0 < bi i → k0_off10 i = ![(bi i - 1) % 2, 0, 0] := by decide +kernel
/-- The semaphore of the slot of the block after. -/
theorem off11_at : ∀ i : grid0.Coords, k0_off11 i = ![(bi i + 1) % 2] := by decide +kernel
/-- The slot of the block after. -/
theorem off12_at : ∀ i : grid0.Coords, k0_off12 i = ![(bi i + 1) % 2, 0, 0] := by decide +kernel
/-- The place in the matrix of the block after. -/
theorem off13_at : ∀ i : grid0.Coords, k0_off13 i = ![1280 * ((bi i + 1) / 2), 2560 * ((bi i + 1) % 2)] := by decide +kernel
/-- The semaphore of the block's own slot. -/
theorem off45_at : ∀ i : grid0.Coords, k0_off45 i = ![bi i % 2] := by decide +kernel
/-- The block's own place in the matrix. -/
theorem off46_at : ∀ i : grid0.Coords, k0_off46 i = ![1280 * (bi i / 2), 2560 * (bi i % 2)] := by decide +kernel
/-- The block's own slot. -/
theorem off47_at : ∀ i : grid0.Coords, k0_off47 i = ![bi i % 2, 0, 0] := by decide +kernel
/-- The semaphore of the block's own slot. -/
theorem off48_at : ∀ i : grid0.Coords, k0_off48 i = ![bi i % 2] := by decide +kernel
/-- The block's own place in the matrix. -/
theorem off49_at : ∀ i : grid0.Coords, k0_off49 i = ![1280 * (bi i / 2), 2560 * (bi i % 2)] := by decide +kernel
/-- The block's own slot. -/
theorem off50_at : ∀ i : grid0.Coords, k0_off50 i = ![bi i % 2, 0, 0] := by decide +kernel

/-- The coordinates of a grid point from its number. -/
theorem coords_at : ∀ t : Fin cfg0.N, (grid0.coords t 0).val = t.val / 76 ∧ (grid0.coords t 1).val = t.val / 38 % 2 ∧ (grid0.coords t 2).val = t.val % 38 := by decide +kernel

/-- The block and the step of a point. -/
theorem bi_at (t : Fin cfg0.N) : bi (grid0.coords t) = t.val / 38 := by
  have h := coords_at t; unfold bi; omega

end Cert.KernelIdeal.Hand

end
-- ==== Proof.SlotOp.lean ====
/-
  Hand-written. One accumulation step on the slot's contents.
-/
module

public import proofs.«01_k».proof.Proof.Ops
public import Idealize.ShloMosaic.Lib.Pointwise
public import proofs.«01_k».proof.Proof.LoopVal
public import proofs.«01_k».proof.Proof.Pts

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A block as the slot's one-slot vector. -/
def up (Z : Blk F) : Vec F S1x1280x2560 .f32 := fun j => Z (ix2 (j 1) (j 2))

/-- One accumulation: the slot's block `Z` with the product of the staged blocks added. -/
def STEP (Z : Blk F) (X : Vec F S1024x1280 .bf16) (Y : Vec F S1024x2560 .bf16) : Blk F :=
  fun y => k0_pay1 (up Z) X Y (ix3 (0 : Fin 1) (y 0) (y 1))

/-- Reading the whole accumulator at an index. -/
theorem readA (g : RBuf F) (x : S2x1280x2560.Idx) : scA.view.read (Elt F) g x = g x := rfl

/-- What a write of a slot leaves in it. -/
theorem write_slot (i : grid0.Coords) (f : RBuf F) (w : Vec F S1x1280x2560 .f32) (x : S2x1280x2560.Idx) (hx : x ∈ slotSet (bi i % 2)) :
    scA.view.writes (Elt F) f [⟨Rect.unit (s := S2x1280x2560) (k0_off7 i) S1x1280x2560.size (k0_off7_inb i), w⟩] x = w (ix3 (0 : Fin 1) (x 1) (x 2)) := by
  have x0 : (x 0).val = bi i % 2 := mem_slotSet.mp hx
  have e : scA.view.read (Elt F) (scA.view.writes (Elt F) f [⟨Rect.unit (s := S2x1280x2560) (k0_off7 i) S1x1280x2560.size (k0_off7_inb i), w⟩]) x = w (ix3 (0 : Fin 1) (x 1) (x 2)) := by
    rw [View.read_writes_cons_unit scA.view f (k0_off7_inb i) w [] x (off7_at i)]
    rw [dif_pos (fun a => by
      fin_cases a
      · show bi i % 2 ≤ (x 0).val ∧ (x 0).val < bi i % 2 + 1; omega
      · show 0 ≤ (x 1).val ∧ (x 1).val < 0 + 1280; have h1 : (x 1).val < 1280 := (x 1).isLt; omega
      · show 0 ≤ (x 2).val ∧ (x 2).val < 0 + 2560; have h1 : (x 2).val < 2560 := (x 2).isLt; omega)]
    refine congrArg w (funext fun a => ?_)
    fin_cases a
    · exact Fin.ext (by show (x 0).val - bi i % 2 = 0; omega)
    · exact Fin.ext (by show (x 1).val - 0 = (x 1).val; omega)
    · exact Fin.ext (by show (x 2).val - 0 = (x 2).val; omega)
  rw [readA] at e
  exact e

/-- Reading a slot that holds a block gives the block. -/
theorem read_slot' (Z : Blk F) (p : ℕ) (o : Fin 3 → ℕ) (h : ∀ a, o a + S1x1280x2560.size a ≤ S2x1280x2560.size a) (ho : o = ![p, 0, 0]) :
      (View.readAt (Elt F) scA.view (Rect.unit (s := S2x1280x2560) o S1x1280x2560.size h).toLoadRect (cb Z) : Vec F S1x1280x2560 .f32) = up Z := by
    subst ho
    funext j
    idx_vars j
    show cb Z ((Rect.unit (s := S2x1280x2560) ![p, 0, 0] S1x1280x2560.size h).emb (ix3 j0 j1 j2)) = _
    have e1 : (((Rect.unit (s := S2x1280x2560) ![p, 0, 0] S1x1280x2560.size h).emb (ix3 j0 j1 j2) : S2x1280x2560.Idx) 1) = j1 :=
      Fin.ext (by show 0 + 1 * j1.val = j1.val; omega)
    have e2 : (((Rect.unit (s := S2x1280x2560) ![p, 0, 0] S1x1280x2560.size h).emb (ix3 j0 j1 j2) : S2x1280x2560.Idx) 2) = j2 :=
      Fin.ext (by show 0 + 1 * j2.val = j2.val; omega)
    unfold cb up
    rw [e1, e2]
    rfl

/-- Reading the first staged block whole. -/
theorem read_whole3 (m : Memref sig .tc .vmem S1024x1280 .bf16) (f : BufTy.Contents (Elt F) m.view.ty) :
    View.readAt (Elt F) m.view (Rect.unit (s := S1024x1280) ![0, 0] S1024x1280.size inb_S1024x1280_S1024x1280_0_0).toLoadRect f = m.view.read (Elt F) f := by
  funext j
  show m.view.read (Elt F) f ((Rect.unit (s := S1024x1280) ![0, 0] S1024x1280.size inb_S1024x1280_S1024x1280_0_0).emb j) = _
  refine congrArg (m.view.read (Elt F) f) (funext fun a => ?_)
  fin_cases a
  · exact Fin.ext (by show 0 + 1 * (j 0).val = (j 0).val; omega)
  · exact Fin.ext (by show 0 + 1 * (j 1).val = (j 1).val; omega)

/-- Reading the second staged block whole. -/
theorem read_whole4 (m : Memref sig .tc .vmem S1024x2560 .bf16) (f : BufTy.Contents (Elt F) m.view.ty) :
    View.readAt (Elt F) m.view (Rect.unit (s := S1024x2560) ![0, 0] S1024x2560.size inb_S1024x2560_S1024x2560_0_0).toLoadRect f = m.view.read (Elt F) f := by
  funext j
  show m.view.read (Elt F) f ((Rect.unit (s := S1024x2560) ![0, 0] S1024x2560.size inb_S1024x2560_S1024x2560_0_0).emb j) = _
  refine congrArg (m.view.read (Elt F) f) (funext fun a => ?_)
  fin_cases a
  · exact Fin.ext (by show 0 + 1 * (j 0).val = (j 0).val; omega)
  · exact Fin.ext (by show 0 + 1 * (j 1).val = (j 1).val; omega)

/-- Writing the sum back leaves the slot holding the block after one more step. -/
theorem stepB (i : grid0.Coords) (Z : Blk F) (X : Vec F S1024x1280 .bf16) (Y : Vec F S1024x2560 .bf16) (x : S2x1280x2560.Idx) (hx : x ∈ slotSet (bi i % 2)) :
    scA.view.writes (Elt F) (cb Z)
      [⟨Rect.unit (s := S2x1280x2560) (k0_off7 i) S1x1280x2560.size (k0_off7_inb i), k0_pay1 (up Z) X Y⟩] x
      = cb (STEP Z X Y) x :=
  write_slot i (cb Z) (k0_pay1 (up Z) X Y) x hx

end Cert.KernelIdeal.Hand

end
-- ==== Proof.Frag.lean ====
/-
  Hand-written. The body in four parts: taking the block's slot over (first step), accumulating one product (every step),
  turning to the next block (second step), finishing the block (last step); what each part takes and gives.
-/
module

public import proofs.«01_k».proof.Proof.Ops
public import Idealize.ShloMosaic.Lib.Pointwise
public import proofs.«01_k».proof.Proof.LoopVal
public import proofs.«01_k».proof.Proof.SlotOp

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The parts -/

/-- First step: block 0's error block is started, and every block's awaited. -/
def fragA (i : grid0.Coords) (K : Prog (TpuEff nD τ sig (Elt F) Λ₀ .tc) PUnit) : Prog (TpuEff nD τ sig (Elt F) Λ₀ .tc) PUnit :=
  if h1 : k0_cond1 i = 1#1 then
    if h2 : k0_cond2 i = 1#1 then
      .op (.enqueueDma (hbmM errA (k0_off3 i) (k0_off3_inb i h1 h2)) (.here (slotM (k0_off2 i) (k0_off2_inb i h1 h2))) (.dma (cellM cc0_scratch1 (k0_off1 i) (k0_off1_inb i h1 h2))) (View.wordExact_bits rfl) ((View.wordExact_bits rfl).reshape _ _) ⟨Or.inl rfl, trivial⟩) fun _ =>
      .op (.waitDma2 (cellM cc0_scratch1 (k0_off4 i) (k0_off4_inb i h1)) (hbmM errA (k0_off6 i) (k0_off6_inb i h1)) (slotM (k0_off5 i) (k0_off5_inb i h1)) (View.wordExact_bits rfl) ((View.wordExact_bits rfl).reshape _ _)) fun _ => K
    else
      .op (.waitDma2 (cellM cc0_scratch1 (k0_off4 i) (k0_off4_inb i h1)) (hbmM errA (k0_off6 i) (k0_off6_inb i h1)) (slotM (k0_off5 i) (k0_off5_inb i h1)) (View.wordExact_bits rfl) ((View.wordExact_bits rfl).reshape _ _)) fun _ => K
  else K

/-- Every step: the staged blocks' product is added to the slot. -/
def fragB (i : grid0.Coords) (arg3 : Memref sig .tc .vmem S1024x1280 .bf16) (arg4 : Memref sig .tc .vmem S1024x2560 .bf16) (K : Prog (TpuEff nD τ sig (Elt F) Λ₀ .tc) PUnit) : Prog (TpuEff nD τ sig (Elt F) Λ₀ .tc) PUnit := do
  let v7 : Vec F S1x1280x2560 .f32 ← Prog.lift (.load scA (Rect.unit (s := S2x1280x2560) (k0_off7 i) S1x1280x2560.size (k0_off7_inb i)).toLoadRect (View.loadsAt_vmem h_S1x1280x2560))
  let v9 : Vec F S1024x1280 .bf16 ← Prog.lift (.load arg3 (Rect.unit (s := S1024x1280) ![0, 0] S1024x1280.size inb_S1024x1280_S1024x1280_0_0).toLoadRect (View.loadsAt_vmem h_S1024x1280))
  let v10 : Vec F S1024x2560 .bf16 ← Prog.lift (.load arg4 (Rect.unit (s := S1024x2560) ![0, 0] S1024x2560.size inb_S1024x2560_S1024x2560_0_0).toLoadRect (View.loadsAt_vmem h_S1024x2560))
  let v14 : Vec F S1x1280x2560 .f32 ← Prog.lift (.load scA (Rect.unit (s := S2x1280x2560) (k0_off7 i) S1x1280x2560.size (k0_off7_inb i)).toLoadRect (View.loadsAt_vmem h_S1x1280x2560))
  Prog.lift (.store scA (Rect.unit (s := S2x1280x2560) (k0_off7 i) S1x1280x2560.size (k0_off7_inb i)) (k0_pay1 v7 v9 v10) Finset.univ (View.stores_vmem_bits_univ h_S1x1280x2560 rfl) (.inl rfl))
  K

/-- The next block's error block is started, unless this block is the last. -/
def fragC2 (i : grid0.Coords) (h3 : k0_cond3 i = 1#1) (K : Prog (TpuEff nD τ sig (Elt F) Λ₀ .tc) PUnit) : Prog (TpuEff nD τ sig (Elt F) Λ₀ .tc) PUnit :=
  if h5 : k0_cond5 i = 1#1 then
    .op (.enqueueDma (hbmM errA (k0_off13 i) (k0_off13_inb i h3 h5)) (.here (slotM (k0_off12 i) (k0_off12_inb i h3 h5))) (.dma (cellM cc0_scratch1 (k0_off11 i) (k0_off11_inb i h3 h5))) (View.wordExact_bits rfl) ((View.wordExact_bits rfl).reshape _ _) ⟨Or.inl rfl, trivial⟩) fun _ => K
  else K

/-- Second step: the last block's results have left its slot, and the next block's error block is started into it. -/
def fragC (i : grid0.Coords) (K : Prog (TpuEff nD τ sig (Elt F) Λ₀ .tc) PUnit) : Prog (TpuEff nD τ sig (Elt F) Λ₀ .tc) PUnit :=
  if h3 : k0_cond3 i = 1#1 then
    if h4 : k0_cond4 i = 1#1 then
      .op (.waitDma2 (cellM cc0_scratch2 (k0_off8 i) (k0_off8_inb i h3 h4)) (slotM (k0_off10 i) (k0_off10_inb i h3 h4)) (hbmM nerrA (k0_off9 i) (k0_off9_inb i h3 h4)) ((View.wordExact_bits rfl).reshape _ _) (View.wordExact_bits rfl)) fun _ => fragC2 i h3 K
    else fragC2 i h3 K
  else K

/-- Last step: the block is quantised and its remainders started out; the last block's are awaited. -/
def fragD (i : grid0.Coords) (arg3 : Memref sig .tc .vmem S1024x1280 .bf16) (harg3 : arg3.IsWhole) (arg4 : Memref sig .tc .vmem S1024x2560 .bf16) (harg4 : arg4.IsWhole) (harg5 : errA.IsWhole) (arg6 : Memref sig .tc .vmem S1280x1280 .i8) (harg6 : arg6.IsWhole) (arg7 : Memref sig .tc .vmem S1280x40 .f32) (harg7 : arg7.IsWhole) (harg8 : nerrA.IsWhole) (harg9 : scA.IsWhole) : Prog (TpuEff nD τ sig (Elt F) Λ₀ .tc) PUnit :=
  if h6 : k0_cond6 i = 1#1 then
    k0_part23 (F := F) i arg3 harg3 arg4 harg4 errA harg5 arg6 harg6 arg7 harg7 nerrA harg8 scA harg9 cc0_scratch1 cc0_scratch2 (BitVec.ofNat 32 (i 1).val) (Scalar.addi (Scalar.muli (BitVec.ofNat 32 (i 0).val) 2#32) (BitVec.ofNat 32 (i 1).val)) (Scalar.remsi (Scalar.addi (Scalar.muli (BitVec.ofNat 32 (i 0).val) 2#32) (BitVec.ofNat 32 (i 1).val)) 2#32) h6 >>= fun _ =>
    .op (.enqueueDma (slotM (k0_off47 i) (k0_off47_inb i h6)) (.here (hbmM nerrA (k0_off46 i) (k0_off46_inb i h6))) (.dma (cellM cc0_scratch2 (k0_off45 i) (k0_off45_inb i h6))) ((View.wordExact_bits rfl).reshape _ _) (View.wordExact_bits rfl) ⟨Or.inl rfl, trivial⟩) fun _ =>
    if h7 : k0_cond7 i = 1#1 then
      .op (.waitDma2 (cellM cc0_scratch2 (k0_off48 i) (k0_off48_inb i h6 h7)) (slotM (k0_off50 i) (k0_off50_inb i h6 h7)) (hbmM nerrA (k0_off49 i) (k0_off49_inb i h6 h7)) ((View.wordExact_bits rfl).reshape _ _) (View.wordExact_bits rfl)) fun _ => .ret ⟨⟩
    else .ret ⟨⟩
  else .ret ⟨⟩

/-- The body of a grid point is its four parts one after the other. -/
theorem skel_frags (i : grid0.Coords) (arg3 : Memref sig .tc .vmem S1024x1280 .bf16) (harg3 : arg3.IsWhole) (arg4 : Memref sig .tc .vmem S1024x2560 .bf16) (harg4 : arg4.IsWhole) (harg5 : errA.IsWhole) (arg6 : Memref sig .tc .vmem S1280x1280 .i8) (harg6 : arg6.IsWhole) (arg7 : Memref sig .tc .vmem S1280x40 .f32) (harg7 : arg7.IsWhole) (harg8 : nerrA.IsWhole) (harg9 : scA.IsWhole) :
    cc0_int4_wgrad_skel (F := F) i arg3 harg3 arg4 harg4 errA harg5 arg6 harg6 arg7 harg7 nerrA harg8 scA harg9 cc0_scratch1 cc0_scratch2 = fragA i (fragB i arg3 arg4 (fragC i (fragD i arg3 harg3 arg4 harg4 harg5 arg6 harg6 arg7 harg7 harg8 harg9))) := rfl

/-! ## Assertions -/

section
variable (𝒱 : Variants) (c : Dev nD) (bd : Option 𝒱.V)

/-- A point's block is one of eight. -/
theorem bi_lt (i : grid0.Coords) : bi i < 8 := by
  have h0 : (i 0).val < 4 := (i 0).isLt
  have h1 : (i 1).val < 2 := (i 1).isLt
  unfold bi; omega

/-- What the core owes on its semaphores is nothing. -/
def Owes : sProp 𝕄 := iprop(∃ W : Waits sig Unit, owes (c : Thread nD τ) 0 W)
def SlotFree (b : ℕ) : sProp 𝕄 := iprop(∃ X : Blk F, SlotAt c b X)

/-! ## First step -/

/-- The first part does nothing but at the first step of a block. -/
theorem fragA_skip (i : grid0.Coords) (hk : (i 2).val ≠ 0) (K : Prog (TpuEff nD τ sig (Elt F) Λ₀ .tc) PUnit) : fragA i K = K :=
  dif_neg (fun h => hk ((cond1_iff i).mp h))

/-- The very first point: block 0's transfer is started and awaited. -/
theorem fragA_first (i : grid0.Coords) (hk : (i 2).val = 0) (hb : bi i = 0) (K : Prog (TpuEff nD τ sig (Elt F) Λ₀ .tc) PUnit) (Q : PUnit → sProp 𝕄) (X : Blk F) (e : Vec F S5120x5120 .f32) :
    iprop(ErrAll c e ∗ SlotAt c (bi i) X ∗ Sem0 c cc0_scratch1 (bi i) ∗ Owes (F := F) c)
      ⊢ iprop((iprop(SlotAt c (bi i) (blkOf (bi i) (by omega) e) ∗ ErrAll c e ∗ Sem0 c cc0_scratch1 (bi i) ∗ Owes (F := F) c) -∗ wp frame (wpE (defs₀ (F := F)) 𝒱 (c : Thread nD τ) bd) Set.univ K Q)
        -∗ wp frame (wpE (defs₀ (F := F)) 𝒱 (c : Thread nD τ) bd) Set.univ (fragA i K) Q) := by
  have h1 := (cond1_iff i).mpr hk
  have h2 := (cond2_iff i).mpr hb
  rw [fragA, dif_pos h1, dif_pos h2]
  unfold Owes
  iintro ⟨He, Hs, Hv, %W, HO⟩ Hk
  iapply (issue_in c 𝒱 bd (bi i) (by omega) (off2_at i) (off3_at i) (off1_at i) X e) $$ [He Hs Hv]
  · isplitl [He]; · iexact He
    isplitl [Hs]; · iexact Hs
    iexact Hv
  iintro Hf
  iapply (wait_in c 𝒱 bd (bi i) (off4_at i) (blkOf (bi i) (by omega) e) e W) $$ [Hf HO]
  · isplitl [Hf]; · iexact Hf
    iexact HO
  iintro ⟨Hs, He, Hv, HO⟩
  iapply Hk
  isplitl [Hs]; · iexact Hs
  isplitl [He]; · iexact He
  isplitl [Hv]; · iexact Hv
  iexists _; iexact HO

/-- The first point of a later block: its transfer, started earlier, is awaited. -/
theorem fragA_next (i : grid0.Coords) (hk : (i 2).val = 0) (hb : bi i ≠ 0) (K : Prog (TpuEff nD τ sig (Elt F) Λ₀ .tc) PUnit) (Q : PUnit → sProp 𝕄) (X : Blk F) (e : Vec F S5120x5120 .f32) :
    iprop(InFl c (bi i) X e ∗ Owes (F := F) c)
      ⊢ iprop((iprop(SlotAt c (bi i) X ∗ ErrAll c e ∗ Sem0 c cc0_scratch1 (bi i) ∗ Owes (F := F) c) -∗ wp frame (wpE (defs₀ (F := F)) 𝒱 (c : Thread nD τ) bd) Set.univ K Q)
        -∗ wp frame (wpE (defs₀ (F := F)) 𝒱 (c : Thread nD τ) bd) Set.univ (fragA i K) Q) := by
  have h1 := (cond1_iff i).mpr hk
  rw [fragA, dif_pos h1, dif_neg (fun h => hb ((cond2_iff i).mp h))]
  unfold Owes
  iintro ⟨Hf, %W, HO⟩ Hk
  iapply (wait_in c 𝒱 bd (bi i) (off4_at i) X e W) $$ [Hf HO]
  · isplitl [Hf]; · iexact Hf
    iexact HO
  iintro ⟨Hs, He, Hv, HO⟩
  iapply Hk
  isplitl [Hs]; · iexact Hs
  isplitl [He]; · iexact He
  isplitl [Hv]; · iexact Hv
  iexists _; iexact HO

/-! ## Every step -/

/-- The rectangle a grid point accumulates into is its block's slot. -/
theorem setOn_slotRi (i : grid0.Coords) : scA.view.setOn (slotRi i).set = slotSet (bi i % 2) := by
  rw [← slotRect_set (p := bi i % 2) rfl (slotInb _ (par_lt i))]
  exact Finset.map_refl

/-- The second part adds the product of the staged blocks to the slot. -/
theorem fragB_spec (i : grid0.Coords) (arg3 : Memref sig .tc .vmem S1024x1280 .bf16) (harg3 : arg3.IsWhole) (arg4 : Memref sig .tc .vmem S1024x2560 .bf16) (harg4 : arg4.IsWhole)
    (K : Prog (TpuEff nD τ sig (Elt F) Λ₀ .tc) PUnit) (Q : PUnit → sProp 𝕄) (Z : Blk F) (X : Vec F S1024x1280 .bf16) (Y : Vec F S1024x2560 .bf16) :
    iprop(SlotAt c (bi i) Z ∗ owns (c : Thread nD τ) arg3 fullShare X ∗ owns (c : Thread nD τ) arg4 fullShare Y)
      ⊢ iprop((iprop(SlotAt c (bi i) (STEP Z X Y) ∗ owns (c : Thread nD τ) arg3 fullShare X ∗ owns (c : Thread nD τ) arg4 fullShare Y) -∗ wp frame (wpE (defs₀ (F := F)) 𝒱 (c : Thread nD τ) bd) Set.univ K Q)
        -∗ wp frame (wpE (defs₀ (F := F)) 𝒱 (c : Thread nD τ) bd) Set.univ (fragB i arg3 arg4 K) Q) := by
  unfold SlotAt owns
  rw [← setOn_slotRi]
  iintro ⟨Hs, ⟨%f3, %h3, H3⟩, ⟨%f4, %h4, H4⟩⟩ Hk
  unfold fragB
  sl_exec
  iapply Hk
  subst h3 h4
  isplitl [Hs]
  · rw [setOn_slotRi, read_slot' Z _ _ (k0_off7_inb i) (off7_at i), read_whole3, read_whole4]
    iapply (Entails.of_eq (pointsTo_congr (stepB i Z _ _))) $$ Hs
  isplitl [H3]
  · iexists f3; isplitr; · ipureintro; rfl
    iexact H3
  · iexists f4; isplitr; · ipureintro; rfl
    iexact H4

/-! ## Second step -/

/-- Blocks of equal parity have the same slot. -/
theorem SlotAt_congr {b b' : ℕ} (h : b % 2 = b' % 2) (X : Blk F) : SlotAt c b X = SlotAt c b' X := by
  unfold SlotAt; rw [h]

/-- Blocks of equal parity have the same semaphore. -/
theorem Sem0_congr (S : DmaSems sig S2) {b b' : ℕ} (h : b % 2 = b' % 2) : (Sem0 c S b : sProp 𝕄) = Sem0 c S b' := by
  unfold Sem0; rw [cell_congr S h]

/-- The third part does nothing but at the second step of a block. -/
theorem fragC_skip (i : grid0.Coords) (hk : (i 2).val ≠ 1) (K : Prog (TpuEff nD τ sig (Elt F) Λ₀ .tc) PUnit) : fragC i K = K :=
  dif_neg (fun h => hk ((cond3_iff i).mp h))

/-- Another block follows: its error block is started into the other slot. -/
theorem fragC2_more (i : grid0.Coords) (h3 : k0_cond3 i = 1#1) (hb : bi i + 1 < 8) (K : Prog (TpuEff nD τ sig (Elt F) Λ₀ .tc) PUnit) (Q : PUnit → sProp 𝕄) (e : Vec F S5120x5120 .f32) :
    iprop(ErrAll c e ∗ SlotFree (F := F) c (bi i + 1) ∗ Sem0 c cc0_scratch1 (bi i + 1))
      ⊢ iprop((InFl c (bi i + 1) (blkOf (bi i + 1) hb e) e -∗ wp frame (wpE (defs₀ (F := F)) 𝒱 (c : Thread nD τ) bd) Set.univ K Q)
        -∗ wp frame (wpE (defs₀ (F := F)) 𝒱 (c : Thread nD τ) bd) Set.univ (fragC2 i h3 K) Q) := by
  have h5 := (cond5_iff i).mpr hb
  rw [fragC2, dif_pos h5]
  unfold SlotFree
  iintro ⟨He, ⟨%X, Hs⟩, Hv⟩ Hk
  iapply (issue_in c 𝒱 bd (bi i + 1) hb (off12_at i) (off13_at i) (off11_at i) X e) $$ [He Hs Hv]
  · isplitl [He]; · iexact He
    isplitl [Hs]; · iexact Hs
    iexact Hv
  iexact Hk

/-- At the last block no further copy of the error is started. -/
theorem fragC2_last (i : grid0.Coords) (h3 : k0_cond3 i = 1#1) (hb : ¬ bi i + 1 < 8) (K : Prog (TpuEff nD τ sig (Elt F) Λ₀ .tc) PUnit) : fragC2 i h3 K = K :=
  dif_neg (fun h => hb ((cond5_iff i).mp h))

/-- At the first block there is no earlier copy out to wait for. -/
theorem fragC_first (i : grid0.Coords) (hk : (i 2).val = 1) (hb : bi i = 0) (K : Prog (TpuEff nD τ sig (Elt F) Λ₀ .tc) PUnit) :
    fragC i K = fragC2 i ((cond3_iff i).mpr hk) K := by
  rw [fragC, dif_pos ((cond3_iff i).mpr hk), dif_neg (fun h => by have := (cond4_iff i).mp h; omega)]

/-- The last block's results have arrived: its slot is free. -/
theorem fragC_wait (i : grid0.Coords) (hk : (i 2).val = 1) (hb : 0 < bi i) (K : Prog (TpuEff nD τ sig (Elt F) Λ₀ .tc) PUnit) (Q : PUnit → sProp 𝕄) (g : Vec F S5120x5120 .f32) :
    iprop(OutFl c (bi i - 1) g ∗ Owes (F := F) c)
      ⊢ iprop((iprop(NerrAll c g ∗ SlotFree (F := F) c (bi i - 1) ∗ Sem0 c cc0_scratch2 (bi i - 1) ∗ Owes (F := F) c) -∗ wp frame (wpE (defs₀ (F := F)) 𝒱 (c : Thread nD τ) bd) Set.univ (fragC2 i ((cond3_iff i).mpr hk) K) Q)
        -∗ wp frame (wpE (defs₀ (F := F)) 𝒱 (c : Thread nD τ) bd) Set.univ (fragC i K) Q) := by
  rw [fragC, dif_pos ((cond3_iff i).mpr hk), dif_pos ((cond4_iff i).mpr hb)]
  unfold Owes SlotFree
  iintro ⟨Hf, %W, HO⟩ Hk
  iapply (wait_out c 𝒱 bd (bi i - 1) (off8_at i hb) g W) $$ [Hf HO]
  · isplitl [Hf]; · iexact Hf
    iexact HO
  iintro ⟨Hn, Hs, Hv, HO⟩
  iapply Hk
  isplitl [Hn]; · iexact Hn
  isplitl [Hs]; · iexact Hs
  isplitl [Hv]; · iexact Hv
  iexists _; iexact HO

/-! ## Last step -/

/-- The fourth part does nothing but at the last step of a block. -/
theorem fragD_skip (i : grid0.Coords) (arg3 : Memref sig .tc .vmem S1024x1280 .bf16) (harg3 : arg3.IsWhole) (arg4 : Memref sig .tc .vmem S1024x2560 .bf16) (harg4 : arg4.IsWhole) (harg5 : errA.IsWhole) (arg6 : Memref sig .tc .vmem S1280x1280 .i8) (harg6 : arg6.IsWhole) (arg7 : Memref sig .tc .vmem S1280x40 .f32) (harg7 : arg7.IsWhole) (harg8 : nerrA.IsWhole) (harg9 : scA.IsWhole) (hk : (i 2).val ≠ 37) : fragD (F := F) i arg3 harg3 arg4 harg4 harg5 arg6 harg6 arg7 harg7 harg8 harg9 = .ret ⟨⟩ :=
  dif_neg (fun h => hk ((cond6_iff i).mp h))

/-- The quantising loop. -/
theorem loop_spec (i : grid0.Coords) (arg3 : Memref sig .tc .vmem S1024x1280 .bf16) (harg3 : arg3.IsWhole) (arg4 : Memref sig .tc .vmem S1024x2560 .bf16) (harg4 : arg4.IsWhole) (harg5 : errA.IsWhole) (arg6 : Memref sig .tc .vmem S1280x1280 .i8) (harg6 : arg6.IsWhole) (arg7 : Memref sig .tc .vmem S1280x40 .f32) (harg7 : arg7.IsWhole) (harg8 : nerrA.IsWhole) (harg9 : scA.IsWhole) (v1 v2 : BitVec 32) (h6 : k0_cond6 i = 1#1) (X : Blk F) (Y2 : Vec F S1280x1280 .i8) (Y3 : Vec F S1280x40 .f32) :
    iprop(SlotAt c (bi i) X ∗ owns (c : Thread nD τ) arg6 fullShare Y2 ∗ owns (c : Thread nD τ) arg7 fullShare Y3)
      ⊢ wp frame (wpE (defs₀ (F := F)) 𝒱 (c : Thread nD τ) bd) Set.univ (k0_part23 (F := F) i arg3 harg3 arg4 harg4 errA harg5 arg6 harg6 arg7 harg7 nerrA harg8 scA harg9 cc0_scratch1 cc0_scratch2 (BitVec.ofNat 32 (i 1).val) v1 v2 h6)
          fun _ => iprop(SlotAt c (bi i) (NEWERR X) ∗ owns (c : Thread nD τ) arg6 fullShare (CODE X) ∗ owns (c : Thread nD τ) arg7 fullShare (C7 (i 1).val 40 X Y3)) := by
  have hI : ∀ (k : Fin k0_t1_loop.trips) (acc : PUnit),
      iprop(SlotAt c (bi i) (B9 k.val X) ∗ owns (c : Thread nD τ) arg6 fullShare (C6 k.val X Y2) ∗ owns (c : Thread nD τ) arg7 fullShare (C7 (i 1).val k.val X Y3))
        ⊢ wp frame (wpE (defs₀ (F := F)) 𝒱 (c : Thread nD τ) bd) Set.univ (k0_t1_body (F := F) i arg3 harg3 arg4 harg4 errA harg5 arg6 harg6 arg7 harg7 nerrA harg8 scA harg9 cc0_scratch1 cc0_scratch2 (BitVec.ofNat 32 (i 1).val) v1 v2 h6 k acc)
          fun _ => iprop(SlotAt c (bi i) (B9 (k.val + 1) X) ∗ owns (c : Thread nD τ) arg6 fullShare (C6 (k.val + 1) X Y2) ∗ owns (c : Thread nD τ) arg7 fullShare (C7 (i 1).val (k.val + 1) X Y3)) := by
    intro k acc
    unfold SlotAt owns
    iintro ⟨Hs, ⟨%f6, %h6', H6⟩, ⟨%f7, %h7', H7⟩⟩
    ihave Hw := (trip_spec 𝒱 c bd i arg3 harg3 arg4 harg4 errA harg5 arg6 harg6 arg7 harg7 nerrA harg8 harg9 cc0_scratch1 cc0_scratch2 (BitVec.ofNat 32 (i 1).val) v1 v2 h6 k Set.univ f6 f7 (cb (B9 k.val X))) $$ [Hs H6 H7]
    · unfold TripS
      isplitl [H6]; · iexact H6
      isplitl [H7]; · iexact H7
      rw [setOn_slotRi]; iexact Hs
    iapply (wp_wand_r Idealize.ShloMosaic.frame (wpE (defs₀ (F := F)) 𝒱 (c : Thread nD τ) bd))
    isplitl [Hw]; · iexact Hw
    iintro %a ⟨H6, H7, Hs⟩
    isplitl [Hs]
    · rw [setOn_slotRi]
      iapply (Entails.of_eq (pointsTo_congr (L9_all i k.val (trips40 k) X))) $$ Hs
    isplitl [H6]
    · iexists _; isplitr
      · ipureintro; exact L6_all i k.val (trips40 k) X arg6 f6 Y2 h6'
      iexact H6
    · iexists _; isplitr
      · ipureintro; exact L7_all i k.val (trips40 k) X (i 1) arg7 f7 Y3 h7'
      iexact H7
  have ht : k0_t1_loop.trips = 40 := Nat.le_antisymm k0_t1_abs.2.1 (by decide)
  rw [k0_part23_eq_skeleton]
  unfold k0_part23_skel
  dsimp only
  iintro H
  iapply (Scf.wp_for_bind Idealize.ShloMosaic.frame (wpE (defs₀ (F := F)) 𝒱 (c : Thread nD τ) bd) Set.univ k0_t1_loop.lb k0_t1_loop.ub k0_t1_loop.st (k0_t1_ok i h6) PUnit.unit _
    (fun n _ => iprop(SlotAt c (bi i) (B9 n X) ∗ owns (c : Thread nD τ) arg6 fullShare (C6 n X Y2) ∗ owns (c : Thread nD τ) arg7 fullShare (C7 (i 1).val n X Y3))) hI) $$ [H]
  · rw [B9_zero, C6_zero, C7_zero]; iexact H
  iintro %a H
  have e : Scf.trips k0_t1_loop.lb k0_t1_loop.ub k0_t1_loop.st = 40 := ht
  rw [e, B9_end, C6_end]
  iapply (le_wp_ret Idealize.ShloMosaic.frame)
  iexact H

/-- The last step of a block that is not the last: its remainders are on their way. -/
theorem fragD_more (i : grid0.Coords) (arg3 : Memref sig .tc .vmem S1024x1280 .bf16) (harg3 : arg3.IsWhole) (arg4 : Memref sig .tc .vmem S1024x2560 .bf16) (harg4 : arg4.IsWhole) (harg5 : errA.IsWhole) (arg6 : Memref sig .tc .vmem S1280x1280 .i8) (harg6 : arg6.IsWhole) (arg7 : Memref sig .tc .vmem S1280x40 .f32) (harg7 : arg7.IsWhole) (harg8 : nerrA.IsWhole) (harg9 : scA.IsWhole) (hk : (i 2).val = 37) (hb : bi i ≠ 7) (X : Blk F) (Y2 : Vec F S1280x1280 .i8) (Y3 : Vec F S1280x40 .f32) (g : Vec F S5120x5120 .f32) :
    iprop(SlotAt c (bi i) X ∗ owns (c : Thread nD τ) arg6 fullShare Y2 ∗ owns (c : Thread nD τ) arg7 fullShare Y3 ∗ NerrAll c g ∗ Sem0 c cc0_scratch2 (bi i))
      ⊢ wp frame (wpE (defs₀ (F := F)) 𝒱 (c : Thread nD τ) bd) Set.univ (fragD (F := F) i arg3 harg3 arg4 harg4 harg5 arg6 harg6 arg7 harg7 harg8 harg9)
          fun _ => iprop(OutFl c (bi i) (setBlk (bi i) g (NEWERR X)) ∗ owns (c : Thread nD τ) arg6 fullShare (CODE X) ∗ owns (c : Thread nD τ) arg7 fullShare (C7 (i 1).val 40 X Y3)) := by
  have h6 := (cond6_iff i).mpr hk
  have hb8 : bi i < 8 := bi_lt i
  rw [fragD, dif_pos h6, dif_neg (fun h => hb ((cond7_iff i).mp h)), wp_bind]
  iintro ⟨Hs, H6, H7, Hn, Hv⟩
  iapply (wp_wand_r Idealize.ShloMosaic.frame (wpE (defs₀ (F := F)) 𝒱 (c : Thread nD τ) bd))
  isplitl [Hs H6 H7]
  · iapply (loop_spec 𝒱 c bd i arg3 harg3 arg4 harg4 harg5 arg6 harg6 arg7 harg7 harg8 harg9 _ _ h6 X Y2 Y3)
    isplitl [Hs]; · iexact Hs
    isplitl [H6]; · iexact H6
    iexact H7
  iintro %a ⟨Hs, H6, H7⟩
  iapply (issue_out c 𝒱 bd (bi i) hb8 (off47_at i) (off46_at i) (off45_at i) (NEWERR X) g) $$ [Hs Hn Hv]
  · isplitl [Hs]; · iexact Hs
    isplitl [Hn]; · iexact Hn
    iexact Hv
  iintro Hf
  rw [wp_ret]
  imodintro
  isplitl [Hf]; · iexact Hf
  isplitl [H6]; · iexact H6
  iexact H7

/-- The last step of the last block: its remainders have arrived. -/
theorem fragD_last (i : grid0.Coords) (arg3 : Memref sig .tc .vmem S1024x1280 .bf16) (harg3 : arg3.IsWhole) (arg4 : Memref sig .tc .vmem S1024x2560 .bf16) (harg4 : arg4.IsWhole) (harg5 : errA.IsWhole) (arg6 : Memref sig .tc .vmem S1280x1280 .i8) (harg6 : arg6.IsWhole) (arg7 : Memref sig .tc .vmem S1280x40 .f32) (harg7 : arg7.IsWhole) (harg8 : nerrA.IsWhole) (harg9 : scA.IsWhole) (hk : (i 2).val = 37) (hb : bi i = 7) (X : Blk F) (Y2 : Vec F S1280x1280 .i8) (Y3 : Vec F S1280x40 .f32) (g : Vec F S5120x5120 .f32) :
    iprop(SlotAt c (bi i) X ∗ owns (c : Thread nD τ) arg6 fullShare Y2 ∗ owns (c : Thread nD τ) arg7 fullShare Y3 ∗ NerrAll c g ∗ Sem0 c cc0_scratch2 (bi i) ∗ Owes (F := F) c)
      ⊢ wp frame (wpE (defs₀ (F := F)) 𝒱 (c : Thread nD τ) bd) Set.univ (fragD (F := F) i arg3 harg3 arg4 harg4 harg5 arg6 harg6 arg7 harg7 harg8 harg9)
          fun _ => iprop(NerrAll c (setBlk (bi i) g (NEWERR X)) ∗ SlotFree (F := F) c (bi i) ∗ Sem0 c cc0_scratch2 (bi i) ∗ Owes (F := F) c
            ∗ owns (c : Thread nD τ) arg6 fullShare (CODE X) ∗ owns (c : Thread nD τ) arg7 fullShare (C7 (i 1).val 40 X Y3)) := by
  have h6 := (cond6_iff i).mpr hk
  have hb8 : bi i < 8 := bi_lt i
  rw [fragD, dif_pos h6, dif_pos ((cond7_iff i).mpr hb), wp_bind]
  unfold Owes SlotFree
  iintro ⟨Hs, H6, H7, Hn, Hv, %W, HO⟩
  iapply (wp_wand_r Idealize.ShloMosaic.frame (wpE (defs₀ (F := F)) 𝒱 (c : Thread nD τ) bd))
  isplitl [Hs H6 H7]
  · iapply (loop_spec 𝒱 c bd i arg3 harg3 arg4 harg4 harg5 arg6 harg6 arg7 harg7 harg8 harg9 _ _ h6 X Y2 Y3)
    isplitl [Hs]; · iexact Hs
    isplitl [H6]; · iexact H6
    iexact H7
  iintro %a ⟨Hs, H6, H7⟩
  iapply (issue_out c 𝒱 bd (bi i) hb8 (off47_at i) (off46_at i) (off45_at i) (NEWERR X) g) $$ [Hs Hn Hv]
  · isplitl [Hs]; · iexact Hs
    isplitl [Hn]; · iexact Hn
    iexact Hv
  iintro Hf
  iapply (wait_out c 𝒱 bd (bi i) (off48_at i) _ W) $$ [Hf HO]
  · isplitl [Hf]; · iexact Hf
    iexact HO
  iintro ⟨Hn, Hs, Hv, HO⟩
  rw [wp_ret]
  imodintro
  isplitl [Hn]; · iexact Hn
  isplitl [Hs]; · iexact Hs
  isplitl [Hv]; · iexact Hv
  isplitl [HO]; · iexists _; iexact HO
  isplitl [H6]; · iexact H6
  iexact H7

end

end Cert.KernelIdeal.Hand

end
-- ==== Proof.Inv.lean ====
/-
  Hand-written. What the kernel holds between two points of its grid, and that one point of the body takes it from what holds
  before the point to what holds after it.
-/
module

public import proofs.«01_k».proof.Proof.Frag

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The contents -/

section
variable (e g0 : Vec F S5120x5120 .f32) (xs : ℕ → Vec F S1024x1280 .bf16) (ys : ℕ → Vec F S1024x2560 .bf16)

/-- Block `b` of the error array (past the last block, a constant never read). -/
def errV (b : ℕ) : Blk F := if h : b < 8 then blkOf b h e else fun _ => e (ix2 0 0)

/-- The error's block, for a block of the grid. -/
theorem errV_eq {b : ℕ} (h : b < 8) : errV e b = blkOf b h e := dif_pos h

/-- The accumulator of block `b` after `k` of its products. -/
def ACC (b : ℕ) : ℕ → Blk F
  | 0 => errV e b
  | k + 1 => STEP (ACC b k) (xs (38 * b + k)) (ys (38 * b + k))

/-- The new-error array once `n` blocks have been written. -/
def gArr : ℕ → Vec F S5120x5120 .f32
  | 0 => g0
  | n + 1 => setBlk n (gArr n) (NEWERR (ACC e xs ys n 38))

/-! ## What is held -/

variable (c : Dev nD)

/-- Before the first point and after the last: both slots free, every semaphore at zero. -/
def Ends (b : ℕ) : sProp 𝕄 :=
  iprop(ErrAll c e ∗ NerrAll c (gArr e g0 xs ys b) ∗ SlotFree (F := F) c 0 ∗ SlotFree (F := F) c 1
    ∗ Sem0 c cc0_scratch1 0 ∗ Sem0 c cc0_scratch1 1 ∗ Sem0 c cc0_scratch2 0 ∗ Sem0 c cc0_scratch2 1)

/-- Before a later block: its error block and the previous block's results are on their way. -/
def Turn (b : ℕ) : sProp 𝕄 :=
  iprop(InFl c b (errV e b) e ∗ OutFl c (b - 1) (gArr e g0 xs ys b) ∗ Sem0 c cc0_scratch1 (b + 1) ∗ Sem0 c cc0_scratch2 b)

/-- The other slot while the previous block's results may be leaving it. -/
def PrevOut (b : ℕ) : sProp 𝕄 :=
  if b = 0 then iprop(SlotFree (F := F) c (b + 1) ∗ NerrAll c (gArr e g0 xs ys b) ∗ Sem0 c cc0_scratch2 (b + 1))
  else OutFl c (b - 1) (gArr e g0 xs ys b)

/-- In a block, `k` products in, before the second step's turn. -/
def Early (b k : ℕ) : sProp 𝕄 :=
  iprop(SlotAt c b (ACC e xs ys b k) ∗ ErrAll c e ∗ Sem0 c cc0_scratch1 b ∗ Sem0 c cc0_scratch1 (b + 1) ∗ Sem0 c cc0_scratch2 b
    ∗ PrevOut e g0 xs ys c b)

/-- The other slot once the next block's error block is started into it. -/
def NextIn (b : ℕ) : sProp 𝕄 :=
  if b + 1 < 8 then InFl c (b + 1) (errV e (b + 1)) e
  else iprop(SlotFree (F := F) c (b + 1) ∗ Sem0 c cc0_scratch1 (b + 1) ∗ ErrAll c e)

/-- In a block, `k` products in, after the second step's turn. -/
def Late (b k : ℕ) : sProp 𝕄 :=
  iprop(SlotAt c b (ACC e xs ys b k) ∗ NerrAll c (gArr e g0 xs ys b) ∗ Sem0 c cc0_scratch2 b ∗ Sem0 c cc0_scratch2 (b + 1)
    ∗ Sem0 c cc0_scratch1 b ∗ NextIn e c b)

/-- What is held before step `k` of block `b`. -/
def INV (b k : ℕ) : sProp 𝕄 :=
  if k = 0 then (if b = 0 ∨ b = 8 then Ends e g0 xs ys c b else Turn e g0 xs ys c b)
  else if k = 1 then Early e g0 xs ys c b 1 else Late e g0 xs ys c b k

/-- Blocks of equal parity have the same free slot. -/
theorem SlotFree_congr {b b' : ℕ} (h : b % 2 = b' % 2) : (SlotFree (F := F) c b : sProp 𝕄) = SlotFree c b' := by
  unfold SlotFree; simp only [SlotAt_congr c h]

variable (𝒱 : Variants) (bd : Option 𝒱.V) (i : grid0.Coords)

/-! ## The parts of a point -/

/-- The first step's taking over of the slot. -/
theorem stA (hk : (i 2).val = 0) (K : Prog (TpuEff nD τ sig (Elt F) Λ₀ .tc) PUnit) (Q : PUnit → sProp 𝕄) :
    iprop(INV e g0 xs ys c (bi i) 0 ∗ Owes (F := F) c)
      ⊢ iprop((iprop(Early e g0 xs ys c (bi i) 0 ∗ Owes (F := F) c) -∗ wp frame (wpE (defs₀ (F := F)) 𝒱 (c : Thread nD τ) bd) Set.univ K Q)
        -∗ wp frame (wpE (defs₀ (F := F)) 𝒱 (c : Thread nD τ) bd) Set.univ (fragA i K) Q) := by
  have hb8 : bi i < 8 := bi_lt i
  rw [INV, if_pos rfl]
  by_cases hb : bi i = 0
  · rw [if_pos (Or.inl hb)]
    unfold Ends
    rw [show (SlotFree (F := F) c 0 : sProp 𝕄) = iprop(∃ X : Blk F, SlotAt c (bi i) X) from (SlotFree_congr c (by rw [hb])),
      SlotFree_congr c (b := 1) (b' := bi i + 1) (by rw [hb]),
      Sem0_congr c cc0_scratch1 (b := 0) (b' := bi i) (by rw [hb]), Sem0_congr c cc0_scratch1 (b := 1) (b' := bi i + 1) (by rw [hb]),
      Sem0_congr c cc0_scratch2 (b := 0) (b' := bi i) (by rw [hb]), Sem0_congr c cc0_scratch2 (b := 1) (b' := bi i + 1) (by rw [hb])]
    iintro ⟨⟨He, Hn, ⟨%X, Hs⟩, H1, Hi0, Hi1, Ho0, Ho1⟩, HO⟩ Hk
    iapply (fragA_first 𝒱 c bd i hk hb K Q X e) $$ [He Hs Hi0 HO]
    · isplitl [He]; · iexact He
      isplitl [Hs]; · iexact Hs
      isplitl [Hi0]; · iexact Hi0
      iexact HO
    iintro ⟨Hs, He, Hi0, HO⟩
    iapply Hk
    isplitr [HO]
    · unfold Early PrevOut
      rw [if_pos hb, ACC, errV_eq e hb8]
      isplitl [Hs]; · iexact Hs
      isplitl [He]; · iexact He
      isplitl [Hi0]; · iexact Hi0
      isplitl [Hi1]; · iexact Hi1
      isplitl [Ho0]; · iexact Ho0
      isplitl [H1]; · iexact H1
      isplitl [Hn]; · iexact Hn
      iexact Ho1
    iexact HO
  · rw [if_neg (by omega)]
    unfold Turn
    iintro ⟨⟨Hf, Ho, Hi, Hp⟩, HO⟩ Hk
    iapply (fragA_next 𝒱 c bd i hk hb K Q (errV e (bi i)) e) $$ [Hf HO]
    · isplitl [Hf]; · iexact Hf
      iexact HO
    iintro ⟨Hs, He, Hi0, HO⟩
    iapply Hk
    isplitr [HO]
    · unfold Early PrevOut
      rw [if_neg hb, ACC]
      isplitl [Hs]; · iexact Hs
      isplitl [He]; · iexact He
      isplitl [Hi0]; · iexact Hi0
      isplitl [Hi]; · iexact Hi
      isplitl [Hp]; · iexact Hp
      iexact Ho
    iexact HO

/-- A product added. -/
theorem stB (k : ℕ) (arg3 : Memref sig .tc .vmem S1024x1280 .bf16) (harg3 : arg3.IsWhole) (arg4 : Memref sig .tc .vmem S1024x2560 .bf16) (harg4 : arg4.IsWhole)
    (K : Prog (TpuEff nD τ sig (Elt F) Λ₀ .tc) PUnit) (Q : PUnit → sProp 𝕄) (R : sProp 𝕄) :
    iprop(iprop(SlotAt c (bi i) (ACC e xs ys (bi i) k) ∗ R) ∗ owns (c : Thread nD τ) arg3 fullShare (xs (38 * bi i + k)) ∗ owns (c : Thread nD τ) arg4 fullShare (ys (38 * bi i + k)))
      ⊢ iprop((iprop(iprop(SlotAt c (bi i) (ACC e xs ys (bi i) (k + 1)) ∗ R) ∗ owns (c : Thread nD τ) arg3 fullShare (xs (38 * bi i + k)) ∗ owns (c : Thread nD τ) arg4 fullShare (ys (38 * bi i + k)))
          -∗ wp frame (wpE (defs₀ (F := F)) 𝒱 (c : Thread nD τ) bd) Set.univ K Q)
        -∗ wp frame (wpE (defs₀ (F := F)) 𝒱 (c : Thread nD τ) bd) Set.univ (fragB i arg3 arg4 K) Q) := by
  iintro ⟨⟨Hs, HR⟩, H3, H4⟩ Hk
  iapply (fragB_spec 𝒱 c bd i arg3 harg3 arg4 harg4 K Q (ACC e xs ys (bi i) k) (xs (38 * bi i + k)) (ys (38 * bi i + k))) $$ [Hs H3 H4]
  · isplitl [Hs]; · iexact Hs
    isplitl [H3]; · iexact H3
    iexact H4
  iintro ⟨Hs, H3, H4⟩
  iapply Hk
  rw [ACC]
  isplitl [Hs HR]
  · isplitl [Hs]; · iexact Hs
    iexact HR
  isplitl [H3]; · iexact H3
  iexact H4

/-- The second step's turn, given the other slot free. -/
theorem stC2 (h3 : k0_cond3 i = 1#1) (k : ℕ) (K : Prog (TpuEff nD τ sig (Elt F) Λ₀ .tc) PUnit) (Q : PUnit → sProp 𝕄) :
    iprop(ErrAll c e ∗ SlotFree (F := F) c (bi i + 1) ∗ Sem0 c cc0_scratch1 (bi i + 1))
      ⊢ iprop((NextIn e c (bi i) -∗ wp frame (wpE (defs₀ (F := F)) 𝒱 (c : Thread nD τ) bd) Set.univ K Q)
        -∗ wp frame (wpE (defs₀ (F := F)) 𝒱 (c : Thread nD τ) bd) Set.univ (fragC2 i h3 K) Q) := by
  unfold NextIn
  by_cases hb : bi i + 1 < 8
  · rw [if_pos hb, errV_eq e hb]
    exact fragC2_more 𝒱 c bd i h3 hb K Q e
  · rw [if_neg hb, fragC2_last i h3 hb K]
    iintro ⟨He, Hs, Hv⟩ Hk
    iapply Hk
    isplitl [Hs]; · iexact Hs
    isplitl [Hv]; · iexact Hv
    iexact He

/-- The step of the third part: the copy out before is waited for and the next copy in is started. -/
theorem stC (hk : (i 2).val = 1) (k : ℕ) (K : Prog (TpuEff nD τ sig (Elt F) Λ₀ .tc) PUnit) (Q : PUnit → sProp 𝕄) :
    iprop(Early e g0 xs ys c (bi i) k ∗ Owes (F := F) c)
      ⊢ iprop((iprop(Late e g0 xs ys c (bi i) k ∗ Owes (F := F) c) -∗ wp frame (wpE (defs₀ (F := F)) 𝒱 (c : Thread nD τ) bd) Set.univ K Q)
        -∗ wp frame (wpE (defs₀ (F := F)) 𝒱 (c : Thread nD τ) bd) Set.univ (fragC i K) Q) := by
  unfold Early PrevOut Late
  by_cases hb : bi i = 0
  · rw [if_pos hb, fragC_first i hk hb K]
    iintro ⟨⟨Hs, He, Hi0, Hi1, Ho0, Hf, Hn, Ho1⟩, HO⟩ Hk
    iapply (stC2 e c 𝒱 bd i _ k K Q) $$ [He Hf Hi1]
    · isplitl [He]; · iexact He
      isplitl [Hf]; · iexact Hf
      iexact Hi1
    iintro Hx
    iapply Hk
    isplitr [HO]
    · isplitl [Hs]; · iexact Hs
      isplitl [Hn]; · iexact Hn
      isplitl [Ho0]; · iexact Ho0
      isplitl [Ho1]; · iexact Ho1
      isplitl [Hi0]; · iexact Hi0
      iexact Hx
    iexact HO
  · rw [if_neg hb, Sem0_congr c cc0_scratch2 (b := bi i + 1) (b' := bi i - 1) (by omega)]
    iintro ⟨⟨Hs, He, Hi0, Hi1, Ho0, Hf⟩, HO⟩ Hk
    iapply (fragC_wait 𝒱 c bd i hk (by omega) K Q (gArr e g0 xs ys (bi i))) $$ [Hf HO]
    · isplitl [Hf]; · iexact Hf
      iexact HO
    rw [SlotFree_congr c (b := bi i - 1) (b' := bi i + 1) (by omega)]
    iintro ⟨Hn, Hf, Ho1, HO⟩
    iapply (stC2 e c 𝒱 bd i _ k K Q) $$ [He Hf Hi1]
    · isplitl [He]; · iexact He
      isplitl [Hf]; · iexact Hf
      iexact Hi1
    iintro Hx
    iapply Hk
    isplitr [HO]
    · isplitl [Hs]; · iexact Hs
      isplitl [Hn]; · iexact Hn
      isplitl [Ho0]; · iexact Ho0
      isplitl [Ho1]; · iexact Ho1
      isplitl [Hi0]; · iexact Hi0
      iexact Hx
    iexact HO

/-- The last step's finish. -/
theorem stD (arg3 : Memref sig .tc .vmem S1024x1280 .bf16) (harg3 : arg3.IsWhole) (arg4 : Memref sig .tc .vmem S1024x2560 .bf16) (harg4 : arg4.IsWhole) (harg5 : errA.IsWhole) (arg6 : Memref sig .tc .vmem S1280x1280 .i8) (harg6 : arg6.IsWhole) (arg7 : Memref sig .tc .vmem S1280x40 .f32) (harg7 : arg7.IsWhole) (harg8 : nerrA.IsWhole) (harg9 : scA.IsWhole)
    (hk : (i 2).val = 37) (Y2 : Vec F S1280x1280 .i8) (Y3 : Vec F S1280x40 .f32) :
    iprop(Late e g0 xs ys c (bi i) 38 ∗ Owes (F := F) c ∗ owns (c : Thread nD τ) arg6 fullShare Y2 ∗ owns (c : Thread nD τ) arg7 fullShare Y3)
      ⊢ wp frame (wpE (defs₀ (F := F)) 𝒱 (c : Thread nD τ) bd) Set.univ (fragD (F := F) i arg3 harg3 arg4 harg4 harg5 arg6 harg6 arg7 harg7 harg8 harg9)
          fun _ => iprop(INV e g0 xs ys c (bi i + 1) 0 ∗ Owes (F := F) c
            ∗ owns (c : Thread nD τ) arg6 fullShare (CODE (ACC e xs ys (bi i) 38)) ∗ owns (c : Thread nD τ) arg7 fullShare (C7 (i 1).val 40 (ACC e xs ys (bi i) 38) Y3)) := by
  have hb8 : bi i < 8 := bi_lt i
  rw [INV, if_pos rfl]
  unfold Late NextIn
  by_cases hb : bi i = 7
  · rw [if_neg (by omega), if_pos (Or.inr (by omega))]
    iintro ⟨⟨Hs, Hn, Ho0, Ho1, Hi0, Hf, Hi1, He⟩, HO, H6, H7⟩
    iapply (wp_wand_r Idealize.ShloMosaic.frame (wpE (defs₀ (F := F)) 𝒱 (c : Thread nD τ) bd))
    isplitl [Hs Hn Ho0 HO H6 H7]
    · iapply (fragD_last 𝒱 c bd i arg3 harg3 arg4 harg4 harg5 arg6 harg6 arg7 harg7 harg8 harg9 hk hb (ACC e xs ys (bi i) 38) Y2 Y3 (gArr e g0 xs ys (bi i)))
      isplitl [Hs]; · iexact Hs
      isplitl [H6]; · iexact H6
      isplitl [H7]; · iexact H7
      isplitl [Hn]; · iexact Hn
      isplitl [Ho0]; · iexact Ho0
      iexact HO
    iintro %a ⟨Hn, Hs, Ho0, HO, H6, H7⟩
    isplitr [HO H6 H7]
    · unfold Ends
      rw [SlotFree_congr c (b := 0) (b' := bi i + 1) (by omega), SlotFree_congr c (b := 1) (b' := bi i) (by omega),
        Sem0_congr c cc0_scratch1 (b := 0) (b' := bi i + 1) (by omega), Sem0_congr c cc0_scratch1 (b := 1) (b' := bi i) (by omega),
        Sem0_congr c cc0_scratch2 (b := 0) (b' := bi i + 1) (by omega), Sem0_congr c cc0_scratch2 (b := 1) (b' := bi i) (by omega)]
      isplitl [He]; · iexact He
      isplitl [Hn]; · rw [gArr]; iexact Hn
      isplitl [Hf]; · iexact Hf
      isplitl [Hs]; · iexact Hs
      isplitl [Hi1]; · iexact Hi1
      isplitl [Hi0]; · iexact Hi0
      isplitl [Ho1]; · iexact Ho1
      iexact Ho0
    isplitl [HO]; · iexact HO
    isplitl [H6]; · iexact H6
    iexact H7
  · rw [if_pos (by omega), if_neg (by omega)]
    iintro ⟨⟨Hs, Hn, Ho0, Ho1, Hi0, Hf⟩, HO, H6, H7⟩
    iapply (wp_wand_r Idealize.ShloMosaic.frame (wpE (defs₀ (F := F)) 𝒱 (c : Thread nD τ) bd))
    isplitl [Hs Hn Ho0 H6 H7]
    · iapply (fragD_more 𝒱 c bd i arg3 harg3 arg4 harg4 harg5 arg6 harg6 arg7 harg7 harg8 harg9 hk hb (ACC e xs ys (bi i) 38) Y2 Y3 (gArr e g0 xs ys (bi i)))
      isplitl [Hs]; · iexact Hs
      isplitl [H6]; · iexact H6
      isplitl [H7]; · iexact H7
      isplitl [Hn]; · iexact Hn
      iexact Ho0
    iintro %a ⟨Ho, H6, H7⟩
    isplitr [HO H6 H7]
    · unfold Turn
      rw [Sem0_congr c cc0_scratch1 (b := bi i + 1 + 1) (b' := bi i) (by omega), Nat.add_sub_cancel, gArr]
      isplitl [Hf]; · iexact Hf
      isplitl [Ho]; · iexact Ho
      isplitl [Hi0]; · iexact Hi0
      iexact Ho1
    isplitl [HO]; · iexact HO
    isplitl [H6]; · iexact H6
    iexact H7

/-! ## A point -/

/-- What the point may leave in the codes' buffer, and in the scales', handed them at `Y`. -/
def After2 (b k : ℕ) (Y X : Vec F S1280x1280 .i8) : Prop := X = if k = 37 then CODE (ACC e xs ys b 38) else Y
def After3 (b k : ℕ) (Y X : Vec F S1280x40 .f32) : Prop := X = if k = 37 then C7 (b % 2) 40 (ACC e xs ys b 38) Y else Y

/-- A block's parity is its column. -/
theorem bi_mod (i : grid0.Coords) : bi i % 2 = (i 1).val := by
  have h1 : (i 1).val < 2 := (i 1).isLt
  unfold bi; omega

/-- The body of a grid point carries the invariant from that point to the next. -/
theorem point_spec (arg3 : Memref sig .tc .vmem S1024x1280 .bf16) (harg3 : arg3.IsWhole) (arg4 : Memref sig .tc .vmem S1024x2560 .bf16) (harg4 : arg4.IsWhole) (harg5 : errA.IsWhole) (arg6 : Memref sig .tc .vmem S1280x1280 .i8) (harg6 : arg6.IsWhole) (arg7 : Memref sig .tc .vmem S1280x40 .f32) (harg7 : arg7.IsWhole) (harg8 : nerrA.IsWhole) (harg9 : scA.IsWhole)
    (Y2 : Vec F S1280x1280 .i8) (Y3 : Vec F S1280x40 .f32) :
    iprop(INV e g0 xs ys c (bi i) (i 2).val ∗ Owes (F := F) c ∗ owns (c : Thread nD τ) arg3 fullShare (xs (38 * bi i + (i 2).val)) ∗ owns (c : Thread nD τ) arg4 fullShare (ys (38 * bi i + (i 2).val))
        ∗ owns (c : Thread nD τ) arg6 fullShare Y2 ∗ owns (c : Thread nD τ) arg7 fullShare Y3)
      ⊢ wp frame (wpE (defs₀ (F := F)) 𝒱 (c : Thread nD τ) bd) Set.univ (cc0_int4_wgrad_skel (F := F) i arg3 harg3 arg4 harg4 errA harg5 arg6 harg6 arg7 harg7 nerrA harg8 scA harg9 cc0_scratch1 cc0_scratch2)
          fun _ => iprop(INV e g0 xs ys c ((38 * bi i + (i 2).val + 1) / 38) ((38 * bi i + (i 2).val + 1) % 38) ∗ Owes (F := F) c
            ∗ owns (c : Thread nD τ) arg3 fullShare (xs (38 * bi i + (i 2).val)) ∗ owns (c : Thread nD τ) arg4 fullShare (ys (38 * bi i + (i 2).val))
            ∗ owns (c : Thread nD τ) arg6 fullShare (if (i 2).val = 37 then CODE (ACC e xs ys (bi i) 38) else Y2)
            ∗ owns (c : Thread nD τ) arg7 fullShare (if (i 2).val = 37 then C7 (bi i % 2) 40 (ACC e xs ys (bi i) 38) Y3 else Y3)) := by
  have hk38 : (i 2).val < 38 := (i 2).isLt
  rw [skel_frags, bi_mod]
  generalize hk : (i 2).val = k at *
  by_cases h37 : k = 37
  · rw [if_pos h37, if_pos h37, show (38 * bi i + k + 1) / 38 = bi i + 1 by omega, show (38 * bi i + k + 1) % 38 = 0 by omega]
    subst h37
    rw [fragA_skip i (by omega), fragC_skip i (by omega), INV, if_neg (by omega), if_neg (by omega)]
    unfold Late
    iintro ⟨Hinv, HO, H3, H4, H6, H7⟩
    iapply (stB e xs ys c 𝒱 bd i 37 arg3 harg3 arg4 harg4 _ _ _) $$ [Hinv H3 H4]
    · isplitl [Hinv]; · iexact Hinv
      isplitl [H3]; · iexact H3
      iexact H4
    iintro ⟨Hinv, H3, H4⟩
    iapply (wp_wand_r Idealize.ShloMosaic.frame (wpE (defs₀ (F := F)) 𝒱 (c : Thread nD τ) bd))
    isplitl [Hinv HO H6 H7]
    · iapply (stD e g0 xs ys c 𝒱 bd i arg3 harg3 arg4 harg4 harg5 arg6 harg6 arg7 harg7 harg8 harg9 hk Y2 Y3)
      unfold Late
      isplitl [Hinv]; · iexact Hinv
      isplitl [HO]; · iexact HO
      isplitl [H6]; · iexact H6
      iexact H7
    iintro %a ⟨Hinv, HO, H6, H7⟩
    isplitl [Hinv]; · iexact Hinv
    isplitl [HO]; · iexact HO
    isplitl [H3]; · iexact H3
    isplitl [H4]; · iexact H4
    isplitl [H6]; · iexact H6
    iexact H7
  · rw [if_neg h37, if_neg h37, show (38 * bi i + k + 1) / 38 = bi i by omega, show (38 * bi i + k + 1) % 38 = k + 1 by omega,
      fragD_skip i arg3 harg3 arg4 harg4 harg5 arg6 harg6 arg7 harg7 harg8 harg9 (by omega)]
    by_cases h0 : k = 0
    · subst h0
      rw [fragC_skip i (by omega)]
      iintro ⟨Hinv, HO, H3, H4, H6, H7⟩
      iapply (stA e g0 xs ys c 𝒱 bd i hk _ _) $$ [Hinv HO]
      · isplitl [Hinv]; · iexact Hinv
        iexact HO
      unfold Early
      iintro ⟨Hinv, HO⟩
      iapply (stB e xs ys c 𝒱 bd i 0 arg3 harg3 arg4 harg4 _ _ _) $$ [Hinv H3 H4]
      · isplitl [Hinv]; · iexact Hinv
        isplitl [H3]; · iexact H3
        iexact H4
      iintro ⟨Hinv, H3, H4⟩
      rw [INV, if_neg (by omega), if_pos rfl]
      unfold Early
      iapply (le_wp_ret Idealize.ShloMosaic.frame)
      isplitl [Hinv]; · iexact Hinv
      isplitl [HO]; · iexact HO
      isplitl [H3]; · iexact H3
      isplitl [H4]; · iexact H4
      isplitl [H6]; · iexact H6
      iexact H7
    · rw [fragA_skip i (by omega)]
      by_cases h1 : k = 1
      · subst h1
        rw [INV, if_neg (by omega), if_pos rfl]
        unfold Early
        iintro ⟨Hinv, HO, H3, H4, H6, H7⟩
        iapply (stB e xs ys c 𝒱 bd i 1 arg3 harg3 arg4 harg4 _ _ _) $$ [Hinv H3 H4]
        · isplitl [Hinv]; · iexact Hinv
          isplitl [H3]; · iexact H3
          iexact H4
        iintro ⟨Hinv, H3, H4⟩
        iapply (stC e g0 xs ys c 𝒱 bd i hk 2 _ _) $$ [Hinv HO]
        · unfold Early
          isplitl [Hinv]; · iexact Hinv
          iexact HO
        iintro ⟨Hinv, HO⟩
        rw [INV, if_neg (by omega), if_neg (by omega)]
        iapply (le_wp_ret Idealize.ShloMosaic.frame)
        isplitl [Hinv]; · iexact Hinv
        isplitl [HO]; · iexact HO
        isplitl [H3]; · iexact H3
        isplitl [H4]; · iexact H4
        isplitl [H6]; · iexact H6
        iexact H7
      · rw [fragC_skip i (by omega), INV, if_neg (by omega), if_neg (by omega), INV, if_neg (by omega), if_neg (by omega)]
        unfold Late
        iintro ⟨Hinv, HO, H3, H4, H6, H7⟩
        iapply (stB e xs ys c 𝒱 bd i k arg3 harg3 arg4 harg4 _ _ _) $$ [Hinv H3 H4]
        · isplitl [Hinv]; · iexact Hinv
          isplitl [H3]; · iexact H3
          iexact H4
        iintro ⟨Hinv, H3, H4⟩
        iapply (le_wp_ret Idealize.ShloMosaic.frame)
        isplitl [Hinv]; · iexact Hinv
        isplitl [HO]; · iexact HO
        isplitl [H3]; · iexact H3
        isplitl [H4]; · iexact H4
        isplitl [H6]; · iexact H6
        iexact H7

end

end Cert.KernelIdeal.Hand

end
-- ==== Proof.Run.lean ====
/-
  Hand-written. The launch: the kernel runs to the end, its arguments unchanged, every semaphore back at zero, the new-error array
  at the eight blocks' remainders and the codes' and scales' arrays at what the points may have written back.
-/
module

public import proofs.«01_k».proof.Proof.Inv
public import proofs.«01_k».proof.Proof.Pts
public import proofs.«01_k».proof.Proof.Gen.KernelIdeal.Frame
public import proofs.«01_k».proof.Proof.Gen.KernelIdeal.Launch
public import proofs.«01_k».proof.Proof.Gen.KernelIdeal.Skeleton
public import Idealize.ShloMosaic.Lib.Pipeline.FrameValue

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Rounds
open Idealize.ShloMosaic.Pipeline (Dat RDat Cfg Window BodyObligation cellOf)

variable (m : (ℓ : Loc nD τ sig) → Buf (Elt F) ℓ) (ρ : Dev nD → PrngReg)

/-- The program is the one pipelined call on its arguments. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The proof data -/

/-- The grid has a point. -/
theorem point0 : 0 < cfg0.N := by decide

/-- The blocks of the two windowed arguments, point by point (past the last point, a constant never read). -/
def xsOf (c : Dev nD) (t : ℕ) : Vec F S1024x1280 .bf16 := if h : t < cfg0.N then iblk m c 0 ⟨t, h⟩ else iblk m c 0 ⟨0, point0⟩
def ysOf (c : Dev nD) (t : ℕ) : Vec F S1024x2560 .bf16 := if h : t < cfg0.N then iblk m c 1 ⟨t, h⟩ else iblk m c 1 ⟨0, point0⟩

/-- The first argument's staged block at a grid point. -/
theorem xsOf_eq (c : Dev nD) (t : Fin cfg0.N) : xsOf m c t.val = iblk m c 0 t := dif_pos t.isLt
/-- The second argument's staged block at a grid point. -/
theorem ysOf_eq (c : Dev nD) (t : Fin cfg0.N) : ysOf m c t.val = iblk m c 1 t := dif_pos t.isLt

/-- The error array and the new-error array as the kernel finds them. -/
abbrev eOf (c : Dev nD) : Vec F S5120x5120 .f32 := V m c main_arg2
abbrev gOf (c : Dev nD) : Vec F S5120x5120 .f32 := V m c main_v0_2

/-- Block `b`'s accumulator when it is quantised. -/
def accOf (c : Dev nD) (b : ℕ) : Blk F := ACC (eOf m c) (xsOf m c) (ysOf m c) b 38

def rdat (c : Dev nD) : RDat τ (Elt F) Unit ℕ (Pipeline.UD sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = if t.val % 38 = 37 then CODE (accOf m c (t.val / 38)) else Y
    | ⟨3, _⟩ => fun Y X => X = if t.val % 38 = 37 then C7 (t.val / 38 % 2) 40 (accOf m c (t.val / 38)) Y else Y
  Φ t := iprop(INV (eOf m c) (gOf m c) (xsOf m c) (ysOf m c) c (t.val / 38) (t.val % 38) ∗ ∃ r, prngReg c r)
  q _ := fullShare
  owed _ := 0

/-- Each grid point finds the first argument's block staged. -/
theorem finds0 (c : Dev nD) (t : Fin cfg0.N) (Y) (h : (rdat m c).Finds 0 t Y) : Y = iblk m c 0 t := by
  obtain ⟨d, h⟩ := ((rdat m c).finds_of_fetch (fetch0_0 t) Y).mp h
  rw [h]; rfl
/-- Each grid point finds the second argument's block staged. -/
theorem finds1 (c : Dev nD) (t : Fin cfg0.N) (Y) (h : (rdat m c).Finds 1 t Y) : Y = iblk m c 1 t := by
  obtain ⟨d, h⟩ := ((rdat m c).finds_of_fetch (fetch0_1 t) Y).mp h
  rw [h]; rfl

/-- The body that runs at a grid point. -/
theorem defs₀_row (t : Fin cfg0.N) :
    defs₀ (F := F) .tc cfg0.body (cfg0.bodyArgs t (cfg0.slots t)) = bodyAt0 t := by
  unfold defs₀; rw [Defs.onTc_tc]

/-- The body at a grid point carries the invariant on and fills the staging buffers as stated. -/
theorem sound_body (c : Dev nD) (t : Fin cfg0.N) (Y2 : Vec F S1280x1280 .i8) (Y3 : Vec F S1280x40 .f32) :
    iprop((rdat m c).Φ t.castSucc ∗ (rdat m c).owesAt () t.castSucc
        ∗ owns (c : Thread nD τ) (st0_0 t) fullShare (iblk m c 0 t) ∗ owns (c : Thread nD τ) (st0_1 t) fullShare (iblk m c 1 t)
        ∗ owns (c : Thread nD τ) (st0_2 t) fullShare Y2 ∗ owns (c : Thread nD τ) (st0_3 t) fullShare Y3)
      ⊢ wp frame (wpE (defs₀ (F := F)) Variants.none c none) Set.univ (bodyAt0 t) fun _ =>
        iprop((rdat m c).Φ t.succ ∗ (rdat m c).owesAt () t.succ
          ∗ (∃ X, ⌜(rdat m c).after 0 t (iblk m c 0 t) X⌝ ∗ owns (c : Thread nD τ) (st0_0 t) fullShare X)
          ∗ (∃ X, ⌜(rdat m c).after 1 t (iblk m c 1 t) X⌝ ∗ owns (c : Thread nD τ) (st0_1 t) fullShare X)
          ∗ (∃ X, ⌜(rdat m c).after 2 t Y2 X⌝ ∗ owns (c : Thread nD τ) (st0_2 t) fullShare X)
          ∗ (∃ X, ⌜(rdat m c).after 3 t Y3 X⌝ ∗ owns (c : Thread nD τ) (st0_3 t) fullShare X)) := by
  have hb := bi_at t
  have hk := (coords_at t).2.2
  have ht : 38 * bi (grid0.coords t) + (grid0.coords t 2).val = t.val := by omega
  have hbk : t.val / 38 = bi (grid0.coords t) := hb.symm
  have hkk : t.val % 38 = (grid0.coords t 2).val := hk.symm
  unfold bodyAt0
  rw [cc0_int4_wgrad_eq_skeleton]
  have key := point_spec (eOf m c) (gOf m c) (xsOf m c) (ysOf m c) c Variants.none none (grid0.coords t)
    (st0_0 t) (hstage0_0 ((cfg0.slots t 0).cast nbuf0_0)) (st0_1 t) (hstage0_1 ((cfg0.slots t 1).cast nbuf0_1)) (Memref.isWhole_whole _)
    (st0_2 t) (hstage0_2 ((cfg0.slots t 2).cast nbuf0_2)) (st0_3 t) (hstage0_3 ((cfg0.slots t 3).cast nbuf0_3)) (Memref.isWhole_whole _) (Memref.isWhole_whole _) Y2 Y3
  rw [ht, xsOf_eq, ysOf_eq] at key
  rw [show (rdat m c).Φ t.castSucc = iprop(INV (eOf m c) (gOf m c) (xsOf m c) (ysOf m c) c (t.val / 38) (t.val % 38) ∗ ∃ r, prngReg c r) from rfl,
    show (rdat m c).Φ t.succ = iprop(INV (eOf m c) (gOf m c) (xsOf m c) (ysOf m c) c ((t.val + 1) / 38) ((t.val + 1) % 38) ∗ ∃ r, prngReg c r) from rfl]
  unfold RDat.owesAt Pipeline.owesWithin
  rw [show (rdat m c).owed t.castSucc = 0 from rfl, show (rdat m c).owed t.succ = 0 from rfl]
  iintro ⟨⟨Hinv, Hg⟩, ⟨%W, -, HW⟩, H0, H1, H2, H3⟩
  iapply (wp_wand_r Idealize.ShloMosaic.frame (wpE (defs₀ (F := F)) Variants.none (c : Thread nD τ) none))
  isplitl [Hinv HW H0 H1 H2 H3]
  · iapply key
    rw [hbk, hkk]
    isplitl [Hinv]; · iexact Hinv
    isplitl [HW]; · unfold Owes; iexists W; iexact HW
    isplitl [H0]; · iexact H0
    isplitl [H1]; · iexact H1
    isplitl [H2]; · iexact H2
    iexact H3
  unfold Owes
  iintro %a ⟨Hinv, ⟨%W', HW'⟩, H0, H1, H2, H3⟩
  isplitl [Hinv Hg]
  · isplitl [Hinv]; · iexact Hinv
    iexact Hg
  isplitl [HW']
  · iexists W'; isplitr; · ipureintro; exact fun _ _ => Or.inl trivial
    iexact HW'
  isplitl [H0]; · iexists _; isplitr; swap; · iexact H0
                  ipureintro; rfl
  isplitl [H1]; · iexists _; isplitr; swap; · iexact H1
                  ipureintro; rfl
  isplitl [H2]
  · iexists _; isplitr; swap; · iexact H2
    ipureintro
    show _ = if t.val % 38 = 37 then CODE (accOf m c (t.val / 38)) else Y2
    rw [hbk, hkk]; rfl
  · iexists _; isplitr; swap; · iexact H3
    ipureintro
    show _ = if t.val % 38 = 37 then C7 (t.val / 38 % 2) 40 (accOf m c (t.val / 38)) Y3 else Y3
    rw [hbk, hkk]; rfl

/-- The body meets what the pipeline asks of it at every grid point. -/
theorem body_obligation (c : Dev nD) : (rdat m c).BodyObligation (defs₀ (F := F)) Variants.none () Set.univ := fun t Y hY => by
  have h0 := finds0 m c t (Y 0) (hY 0)
  have h1 := finds1 m c t (Y 1) (hY 1)
  rw [bigSep_W0, bigSep_W0, defs₀_row, h0, h1]
  exact sound_body m c t (Y 2) (Y 3)

/-! ## Entry and exit -/

abbrev osem0 : Fin 4 → SemLoc sig := fun j => (![SemLoc.dma 8, SemLoc.dma 9, SemLoc.dma 10, SemLoc.dma 11] : Fin 4 → SemLoc sig) j
/-- The kernel's own semaphores are not the pipeline's. -/
theorem ownSemFacts0 : Pipeline.OwnSemFacts spec0 osem0 := by decide

/-- The first semaphore of the copies in. -/
theorem cell_10 : cell cc0_scratch1 0 = SemLoc.dma 8 := rfl
/-- The second semaphore of the copies in. -/
theorem cell_11 : cell cc0_scratch1 1 = SemLoc.dma 9 := rfl
/-- The first semaphore of the copies out. -/
theorem cell_20 : cell cc0_scratch2 0 = SemLoc.dma 10 := rfl
/-- The second semaphore of the copies out. -/
theorem cell_21 : cell cc0_scratch2 1 = SemLoc.dma 11 := rfl

/-- The kernel's own semaphores at zero are the four of the two copies. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(Sem0 c cc0_scratch1 0 ∗ Sem0 c cc0_scratch1 1 ∗ Sem0 c cc0_scratch2 0 ∗ Sem0 c cc0_scratch2 1) := by
  unfold Sem0
  rw [Pipeline.ownSems0_eq_of_list c osem0 [0, 1, 2, 3] (by decide) (by decide), cell_10, cell_11, cell_20, cell_21]; rfl

def H0 : Finset (Ref sig .tc) := {main_arg2}
def R0 : Finset (Ref sig .tc) := {main_v0_2}
/-- The error is an array that the pipeline leaves to the kernel. -/
theorem H0_sub : H0 ⊆ Pipeline.restRefs sig spec0 := by decide
/-- So is the new error. -/
theorem R0_sub : R0 ⊆ Pipeline.restRefs sig spec0 \ H0 := by decide

/-- What the arrays end at: the new-error array at its eight blocks, the others as they were. -/
def G (c : Dev nD) (b : Ref sig .tc) : Buf (Elt F) ((c : Thread nD τ).loc b) :=
  if h : b = main_v0_2 then h ▸ (gArr (eOf m c) (gOf m c) (xsOf m c) (ysOf m c) 8 : Buf (Elt F) ((c : Thread nD τ).loc main_v0_2)) else V m c b

/-- The new error the run ends with. -/
theorem G_nerr (c : Dev nD) : G m c main_v0_2 = gArr (eOf m c) (gOf m c) (xsOf m c) (ysOf m c) 8 := by
  unfold G; rw [dif_pos rfl]

/-- Holding the error array. -/
theorem hbmPts0_eq (c : Dev nD) :
    (bigSep H0 (fun b => ((c : Thread nD τ).loc b) ↦{fullShare} V m c b) : sProp 𝕄) = ErrAll c (eOf m c) := by
  rw [BI.bigSep_eq_bigSepL_of_eq [main_arg2] (by decide) (by decide)]; rfl

/-- Holding the new error array. -/
theorem routed0_eq (c : Dev nD) (W : (b : Ref sig .tc) → Buf (Elt F) ((c : Thread nD τ).loc b)) :
    (Pipeline.routed R0 c W : sProp 𝕄) = NerrAll c (W main_v0_2) := by
  unfold Pipeline.routed; rw [BI.bigSep_eq_bigSepL_of_eq [main_v0_2] (by decide) (by decide)]; rfl

/-- What is not the first slot is the second. -/
theorem slot_compl : Finset.univ \ slotSet 0 = slotSet 1 := by
  ext x
  have h : (x 0).val < 2 := (x 0).isLt
  simp only [Finset.mem_sdiff, Finset.mem_univ, true_and, mem_slotSet]
  omega

/-- A buffer agrees on each slot with the block read from it. -/
theorem cb_self (f : RBuf F) (p : Fin 2) : ∀ x ∈ slotSet p.val, f x = cb (fun j : S1280x2560.Idx => f (ix3 p (j 0) (j 1))) x := by
  intro x hx
  rw [mem_slotSet] at hx
  unfold cb
  refine congrArg f ?_
  funext a
  fin_cases a
  · exact Fin.ext hx
  · rfl
  · rfl

/-- The ring, whole, is its two slots. -/
theorem ring_split (c : Dev nD) (f : RBuf F) :
    (scA.view.loc (c : Thread nD τ) ↦[Finset.univ]{fullShare} f : sProp 𝕄) ⊢ iprop(SlotFree (F := F) c 0 ∗ SlotFree (F := F) c 1) := by
  refine (pointsTo_split_subset (Finset.subset_univ (slotSet 0))).1.trans ?_
  rw [slot_compl]
  unfold SlotFree SlotAt
  iintro ⟨H0, H1⟩
  isplitl [H0]
  · iexists _; iapply (Entails.of_eq (pointsTo_congr (cb_self f 0))) $$ H0
  · iexists _; iapply (Entails.of_eq (pointsTo_congr (cb_self f 1))) $$ H1

/-- The two free slots are the whole accumulator. -/
theorem ring_join (c : Dev nD) :
    iprop(SlotFree (F := F) c 0 ∗ SlotFree (F := F) c 1) ⊢ (iprop(∃ f : RBuf F, scA.view.loc (c : Thread nD τ) ↦[Finset.univ]{fullShare} f) : sProp 𝕄) := by
  unfold SlotFree SlotAt
  iintro ⟨⟨%X, H0⟩, ⟨%X', H1⟩⟩
  iexists (fun x => if (x 0).val = 0 then cb X x else cb X' x)
  iapply (pointsTo_split_subset (Finset.subset_univ (slotSet 0))).2
  rw [slot_compl]
  isplitl [H0]
  · iapply (Entails.of_eq (pointsTo_congr (fun x hx => by rw [mem_slotSet] at hx; exact (if_pos hx).symm))) $$ H0
  · iapply (Entails.of_eq (pointsTo_congr (fun x hx => by rw [mem_slotSet] at hx; exact (if_neg (by omega)).symm))) $$ H1

/-- The invariant holds before the first grid point. -/
theorem hin (c : Dev nD) : Pipeline.ΦDRG osem0 spec0 H0 R0 (V m) (V m) c ⊢ (rdat m c).Φ 0 := by
  rw [show (rdat m c).Φ 0 = iprop(Ends (eOf m c) (gOf m c) (xsOf m c) (ysOf m c) c 0 ∗ ∃ r, prngReg c r) from rfl,
    Pipeline.ΦDRG_eq, scopedRest0_eq, ownSems00_eq, hbmPts0_eq, routed0_eq]
  unfold Ends
  iintro ⟨⟨%f, Hf⟩, Hg, ⟨Ha, Hb, Hc, Hd⟩, He, Hn⟩
  ihave Hf := (ring_split c f) $$ Hf
  icases Hf with ⟨Hs0, Hs1⟩
  isplitr [Hg]
  · isplitl [He]; · iexact He
    isplitl [Hn]; · iexact Hn
    isplitl [Hs0]; · iexact Hs0
    isplitl [Hs1]; · iexact Hs1
    isplitl [Ha]; · iexact Ha
    isplitl [Hb]; · iexact Hb
    isplitl [Hc]; · iexact Hc
    iexact Hd
  iexact Hg

/-- After the last grid point the invariant gives everything back, the new error written. -/
theorem hout (c : Dev nD) : (rdat m c).Φ (Fin.last cfg0.N) ⊢ Pipeline.ΦDRG osem0 spec0 H0 R0 (V m) (G m) c := by
  rw [show (rdat m c).Φ (Fin.last cfg0.N) = iprop(Ends (eOf m c) (gOf m c) (xsOf m c) (ysOf m c) c 8 ∗ ∃ r, prngReg c r) from rfl,
    Pipeline.ΦDRG_eq, scopedRest0_eq, ownSems00_eq, hbmPts0_eq, routed0_eq, G_nerr]
  unfold Ends
  iintro ⟨⟨He, Hn, Hs0, Hs1, Ha, Hb, Hc, Hd⟩, Hg⟩
  isplitl [Hs0 Hs1]
  · iapply (ring_join (F := F) c)
    isplitl [Hs0]; · iexact Hs0
    iexact Hs1
  isplitl [Hg]; · iexact Hg
  isplitl [Ha Hb Hc Hd]
  · isplitl [Ha]; · iexact Ha
    isplitl [Hb]; · iexact Hb
    isplitl [Hc]; · iexact Hc
    iexact Hd
  isplitl [He]; · iexact He
  iexact Hn

/-! ## The run and the frame -/

set_option backward.isDefEq.respectTransparency.types false in
/-- The whole program runs, with the arrays as stated and every semaphore at zero. -/
theorem run_main : θ_run defs (onTc (τ := τ) (main (F := F))) (s₀ m ρ) (fun r => Pipeline.RDat.FramePostRG cfg0 (rdat m) R0 (V m) (G m) r ∧ r.2.sem = fun _ => 0) :=
  Pipeline.RDat.θ_run_frame_dmaRG (Q' := _) cfgs (0 : Fin 1) launch0 osem0 defs₀ Variants.none (rdat m) ownSemFacts0 H0 R0 H0_sub R0_sub m ρ main
    (hbody := body_obligation m) (hshare := fun c => (rdat m c).share_full fun _ => rfl)
    (howed := fun _ _ => rfl) (V := V m) (hmain := hmainD m Variants.none) (hA := fun _ _ => rfl) (G := G m)
    (hin := hin m) (hout := hout m) (hQ' := fun _ h => h)

/-- The arguments end as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨h.1.1.arr_in c 0 rfl, h.1.1.arr_in c 1 rfl,
      ((h.1.1 c).2 main_arg2 (Finset.mem_sdiff.mpr ⟨Pipeline.mem_restRefs_of main_arg2 (by decide) (by decide), by decide⟩))⟩, h.2⟩) (run_main m ρ)

end Cert.KernelIdeal.Hand

end
-- ==== Proof.Transfer.lean ====
/-
  Hand-written. The program as printed and its idealization are the same text in two namespaces: what was proved of the second at
  any float instance is carried to the first.
-/
module

public import proofs.«01_k».proof.Proof.Run
public import proofs.«01_k».proof.Proof.Gen.Kernel
public import Idealize.ShloMosaic.PureOps.BitExact

@[expose] public section

set_option maxRecDepth 100000
set_option maxHeartbeats 2000000

noncomputable section

namespace Cert.Kernel.Hand

open Idealize.ShloMosaic Idealize.SL.Sem

variable {F : FTy → Type} [FloatOps F]

/-- The quantising loop is the same in both programs. -/
theorem loop_eq : @Cert.Kernel.k0_part23 F _ Cert.Kernel.Gen.facts = @Cert.KernelIdeal.k0_part23 F _ Cert.KernelIdeal.Gen.facts := rfl
/-- The kernel's body is the same in both programs. -/
theorem body_eq : @Cert.Kernel.cc0_int4_wgrad F _ Cert.Kernel.Gen.facts = @Cert.KernelIdeal.cc0_int4_wgrad F _ Cert.KernelIdeal.Gen.facts := rfl

/-- The call's table is the same in both programs. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l x
  match l, x with
  | 0, (t, s) => rfl

/-- The whole table is the same in both programs. -/
theorem defs_eq : @Cert.Kernel.defs F _ Cert.Kernel.Gen.facts = @Cert.KernelIdeal.defs F _ Cert.KernelIdeal.Gen.facts :=
  congrArg (Pipeline.defs Cert.KernelIdeal.pcfgs) defs₀_eq

variable (m : (ℓ : Loc Cert.Kernel.nD Cert.Kernel.τ Cert.Kernel.sig) → Buf (Elt F) ℓ) (ρ : Dev Cert.Kernel.nD → PrngReg)

/-- The program as printed runs, its arguments unchanged and every semaphore at zero. -/
theorem frame : θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq]
  exact Cert.KernelIdeal.Hand.frame (F := F) m ρ

end Cert.Kernel.Hand

end
-- ==== Proof.Accum.lean ====
/-
  The accumulator of a block over the extended reals: after its 38 products it holds the error block plus the whole contraction.
-/
module

public import proofs.«01_k».proof.Proof.Run
public import Idealize.ShloMosaic.Lib.Pointwise
public import Idealize.ShloMosaic.PureOps.Ideal

@[expose] public section

set_option maxRecDepth 8000

noncomputable section

namespace Cert.KernelIdeal.Hand

open Cert.KernelIdeal Cert.KernelIdeal.Gen
open Idealize.ShloMosaic Idealize.ShloMosaic.TcCoe

/-- One step adds the product of the two staged blocks. -/
theorem step_at (Z : Blk Ideal) (X : Vec Ideal S1024x1280 .bf16) (Y : Vec Ideal S1024x2560 .bf16) (r : Fin 1280) (l : Fin 2560) :
    STEP Z X Y (ix2 r l) = Z (ix2 r l) + ∑ k : Fin 1024, X (ix2 k r) * Y (ix2 k l) := by
  show k0_pay1 (up Z) X Y (ix3 (0 : Fin 1) r l) = _
  unfold k0_pay1
  pointwise
  rfl

/-- The sum over a range of `1024 n`, in blocks of 1024. -/
theorem sum_blocks (g : ℕ → EReal) (n : ℕ) : ∑ s ∈ Finset.range n, ∑ k : Fin 1024, g (1024 * s + k.val) = ∑ i ∈ Finset.range (1024 * n), g i := by
  induction n with
  | zero => simp
  | succ n ih =>
    rw [Finset.sum_range_succ, ih, Nat.mul_succ, Finset.sum_range_add, ← Finset.sum_range (fun k => g (1024 * n + k))]

/-- An entry of the accumulator after some steps: the error plus the sum of the products of those steps. -/
theorem acc_at (e : Vec Ideal S5120x5120 .f32) (xs : ℕ → Vec Ideal S1024x1280 .bf16) (ys : ℕ → Vec Ideal S1024x2560 .bf16) (b n : ℕ) (r : Fin 1280) (l : Fin 2560) :
    ACC e xs ys b n (ix2 r l) = errV e b (ix2 r l) + ∑ s ∈ Finset.range n, ∑ k : Fin 1024, xs (38 * b + s) (ix2 k r) * ys (38 * b + s) (ix2 k l) := by
  induction n with
  | zero => simp [ACC]
  | succ n ih => rw [ACC, step_at, ih, Finset.sum_range_succ, add_assoc]

variable (m : (ℓ : Loc nD τ sig) → Buf (Elt Ideal) ℓ) (c : Dev nD)

abbrev xA : Vec Ideal S38912x5120 .bf16 := m ((c.tc : Thread nD τ).loc main_arg0)
abbrev dA : Vec Ideal S38912x5120 .bf16 := m ((c.tc : Thread nD τ).loc main_arg1)
abbrev eA : Vec Ideal S5120x5120 .f32 := m ((c.tc : Thread nD τ).loc main_arg2)

/-- Which block of the first argument each grid point reads. -/
theorem index0 : ∀ t : Fin cfg0.N, win0_0.index t 0 = t.val % 38 ∧ win0_0.index t 1 = t.val / 76 := by decide +kernel
/-- Which block of the second argument each grid point reads. -/
theorem index1 : ∀ t : Fin cfg0.N, win0_1.index t 0 = t.val % 38 ∧ win0_1.index t 1 = t.val / 38 % 2 := by decide +kernel
/-- The grid has 304 points. -/
theorem points : cfg0.N = 304 := by decide +kernel

/-- What a point is staged of the activations and of the gradients. -/
theorem xs_at (t : ℕ) (ht : t < 304) (k : Fin 1024) (r : Fin 1280) :
    xsOf m c t (ix2 k r) = xA m c (ix2 (⟨1024 * (t % 38) + k.val, by omega⟩ : Fin 38912) (⟨1280 * (t / 76) + r.val, by omega⟩ : Fin 5120)) := by
  have ht' : t < cfg0.N := by rw [points]; exact ht
  have hi : win0_0.index ⟨t, ht'⟩ 0 = t % 38 ∧ win0_0.index ⟨t, ht'⟩ 1 = t / 76 := index0 ⟨t, ht'⟩
  rw [show xsOf m c t = iblk m c 0 ⟨t, ht'⟩ from xsOf_eq m c ⟨t, ht'⟩]
  unfold iblk
  rw [View.read_apply]
  show m ((c.tc : Thread nD τ).loc main_arg0) _ = m ((c.tc : Thread nD τ).loc main_arg0) _
  refine congrArg _ (funext fun a => Fin.ext ?_)
  match a with
  | ⟨0, _⟩ => show win0_0.index ⟨t, ht'⟩ 0 * 1024 + 1 * k.val = 1024 * (t % 38) + k.val; rw [hi.1]; omega
  | ⟨1, _⟩ => show win0_0.index ⟨t, ht'⟩ 1 * 1280 + 1 * r.val = 1280 * (t / 76) + r.val; rw [hi.2]; omega

/-- An entry of the second argument's block at a grid point. -/
theorem ys_at (t : ℕ) (ht : t < 304) (k : Fin 1024) (l : Fin 2560) :
    ysOf m c t (ix2 k l) = dA m c (ix2 (⟨1024 * (t % 38) + k.val, by omega⟩ : Fin 38912) (⟨2560 * (t / 38 % 2) + l.val, by omega⟩ : Fin 5120)) := by
  have ht' : t < cfg0.N := by rw [points]; exact ht
  have hi : win0_1.index ⟨t, ht'⟩ 0 = t % 38 ∧ win0_1.index ⟨t, ht'⟩ 1 = t / 38 % 2 := index1 ⟨t, ht'⟩
  rw [show ysOf m c t = iblk m c 1 ⟨t, ht'⟩ from ysOf_eq m c ⟨t, ht'⟩]
  unfold iblk
  rw [View.read_apply]
  show m ((c.tc : Thread nD τ).loc main_arg1) _ = m ((c.tc : Thread nD τ).loc main_arg1) _
  refine congrArg _ (funext fun a => Fin.ext ?_)
  match a with
  | ⟨0, _⟩ => show win0_1.index ⟨t, ht'⟩ 0 * 1024 + 1 * k.val = 1024 * (t % 38) + k.val; rw [hi.1]; omega
  | ⟨1, _⟩ => show win0_1.index ⟨t, ht'⟩ 1 * 2560 + 1 * l.val = 2560 * (t / 38 % 2) + l.val; rw [hi.2]; omega

/-- The gradient with its error. -/
def VAL : Vec Ideal S5120x5120 .f32 := fun j => (∑ t : Fin 38912, xA m c (ix2 t (j 0)) * dA m c (ix2 t (j 1))) + eA m c j

/-- A block's accumulator, when it is quantised, is the block of the gradient with its error. -/
theorem accOf_at (b : ℕ) (hb : b < 8) (r : Fin 1280) (l : Fin 2560) :
    accOf m c b (ix2 r l) = VAL m c (ix2 (⟨1280 * (b / 2) + r.val, by omega⟩ : Fin 5120) (⟨2560 * (b % 2) + l.val, by omega⟩ : Fin 5120)) := by
  unfold accOf VAL
  rw [acc_at, errV_eq _ hb, add_comm]
  refine congrArg₂ (· + ·) ?_ rfl
  let g : ℕ → EReal := fun i => if h : i < 38912 then xA m c (ix2 (⟨i, h⟩ : Fin 38912) (⟨1280 * (b / 2) + r.val, by omega⟩ : Fin 5120)) * dA m c (ix2 (⟨i, h⟩ : Fin 38912) (⟨2560 * (b % 2) + l.val, by omega⟩ : Fin 5120)) else 0
  have hg : ∀ t : Fin 38912, g t.val = xA m c (ix2 t (⟨1280 * (b / 2) + r.val, by omega⟩ : Fin 5120)) * dA m c (ix2 t (⟨2560 * (b % 2) + l.val, by omega⟩ : Fin 5120)) := fun t => dif_pos t.isLt
  refine Eq.trans ?_ (Finset.sum_congr rfl fun t _ => hg t)
  rw [← Finset.sum_range g, show 38912 = 1024 * 38 from rfl, ← sum_blocks]
  refine Finset.sum_congr rfl fun s hs => Finset.sum_congr rfl fun k _ => ?_
  have hs' : s < 38 := Finset.mem_range.mp hs
  rw [xs_at m c _ (by omega), ys_at m c _ (by omega)]
  have hk : 1024 * s + k.val < 38912 := by omega
  rw [show g (1024 * s + k.val) = _ from hg ⟨1024 * s + k.val, hk⟩]
  have e0 : (38 * b + s) % 38 = s := by omega
  have e1 : (38 * b + s) / 76 = b / 2 := by omega
  have e2 : (38 * b + s) / 38 % 2 = b % 2 := by omega
  simp only [e0, e1, e2]

end Cert.KernelIdeal.Hand

end
-- ==== Proof.Final.lean ====
/-
  What the kernel's three result arrays hold at the end, in the accumulators of the eight blocks.
-/
module

public import proofs.«01_k».proof.Proof.Run
public import Idealize.ShloMosaic.Lib.Pipeline.ArrRel
public import Idealize.ShloMosaic.Lib.Pipeline.ValueKit

@[expose] public section

set_option maxRecDepth 8192
set_option maxHeartbeats 1000000

noncomputable section

namespace Cert.KernelIdeal.Hand

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg) (c : Dev nD)

/-! ## The three arrays -/

def codesOut : Vec F S5120x2560 .i8 := fun j =>
  CODE (accOf m c (2 * ((j 0).val / 1280) + (j 1).val / 1280)) (ix2 ⟨(j 0).val % 1280, Nat.mod_lt _ (by decide)⟩ ⟨(j 1).val % 1280, Nat.mod_lt _ (by decide)⟩)

def scalesOut : Vec F S5120x40 .f32 := fun j =>
  SCALE (accOf m c (2 * ((j 0).val / 1280) + (j 1).val / 20)) (ix2 ⟨(j 0).val % 1280, Nat.mod_lt _ (by decide)⟩ (j 1))

def nerrOut : Vec F S5120x5120 .f32 := fun j =>
  NEWERR (accOf m c (2 * ((j 0).val / 1280) + (j 1).val / 2560)) (ix2 ⟨(j 0).val % 1280, Nat.mod_lt _ (by decide)⟩ ⟨(j 1).val % 2560, Nat.mod_lt _ (by decide)⟩)

/-! ## What the staging buffers hold when they are written back -/

/-- At the last step of a block the codes' staging buffer holds the block's codes. -/
theorem leaves2 (t : Fin cfg0.N) (ht : t.val % 38 = 37) (X) (h : (rdat m c).Leaves 2 t X) : X = CODE (accOf m c (t.val / 38)) := by
  obtain ⟨Y, -, h⟩ := h
  have h' : X = if t.val % 38 = 37 then CODE (accOf m c (t.val / 38)) else Y := h
  rw [h', if_pos ht]

/-- What the scales' staging buffer holds after a grid point: at the last step of a block, its scales entered; else what it held. -/
theorem leaves3 (t : Fin cfg0.N) (X : Vec F S1280x40 .f32) (h : (rdat m c).Leaves 3 t X) :
    ∃ Y : Vec F S1280x40 .f32, (rdat m c).Finds 3 t Y ∧ X = if t.val % 38 = 37 then C7 (t.val / 38 % 2) 40 (accOf m c (t.val / 38)) Y else Y := by
  obtain ⟨Y, hY, h⟩ := h
  exact ⟨Y, hY, h⟩

/-- The scales' staging buffer is never fetched. -/
theorem fetch3 (t : Fin cfg0.N) : (cfg0.win 3).fetch t = false := by revert t; decide +kernel

/-- Inside a row of blocks the scales' staging buffer holds what the point before left. -/
theorem finds3 (t : Fin cfg0.N) (h0 : t.val % 76 ≠ 0) (Y : Vec F S1280x40 .f32) (h : (rdat m c).Finds 3 t Y) :
    (rdat m c).Leaves 3 ⟨t.val - 1, Nat.lt_of_le_of_lt (Nat.sub_le _ _) t.isLt⟩ Y := by
  have ht : t.val ≠ 0 := fun e => h0 (by rw [e])
  rcases ((rdat m c).finds_of_pos (fetch3 t) ht Y).mp h with hf | hl
  · have := (flush0_3 _).mp hf
    have h1 : (t.val - 1) % 76 = 75 := this
    omega
  · exact hl

/-- From the first half's write to the block's end the first half keeps its scales. -/
theorem half0 (n : ℕ) (hn : n ≤ 37) : ∀ (t : Fin cfg0.N), t.val % 76 = 37 + n → ∀ X : Vec F S1280x40 .f32, (rdat m c).Leaves 3 t X →
    ∀ y : S1280x40.Idx, (y 1).val / 20 = 0 → X y = SCALE (accOf m c (2 * (t.val / 76))) y := by
  induction n with
  | zero =>
    intro t ht X hX y hy
    obtain ⟨Y, -, h⟩ := leaves3 m c t X hX
    rw [h, if_pos (by omega), C7_end, show t.val / 38 % 2 = 0 by omega, show t.val / 38 = 2 * (t.val / 76) by omega]
    exact if_pos hy
  | succ n ih =>
    intro t ht X hX y hy
    obtain ⟨Y, hF, h⟩ := leaves3 m c t X hX
    rw [h, if_neg (by omega)]
    have e := ih (by omega) ⟨t.val - 1, Nat.lt_of_le_of_lt (Nat.sub_le _ _) t.isLt⟩ (by show (t.val - 1) % 76 = 37 + n; omega) Y (finds3 m c t (by omega) Y hF) y hy
    rw [e]
    show SCALE (accOf m c (2 * ((t.val - 1) / 76))) y = _
    rw [show (t.val - 1) / 76 = t.val / 76 by omega]

/-- At the block's end both halves have their scales. -/
theorem whole3 (t : Fin cfg0.N) (ht : t.val % 76 = 75) (X : Vec F S1280x40 .f32) (hX : (rdat m c).Leaves 3 t X) (y : S1280x40.Idx) :
    X y = SCALE (accOf m c (2 * (t.val / 76) + (y 1).val / 20)) y := by
  obtain ⟨Y, hF, h⟩ := leaves3 m c t X hX
  have hy : (y 1).val < 40 := (y 1).isLt
  rw [h, if_pos (by omega), C7_end, show t.val / 38 % 2 = 1 by omega, show t.val / 38 = 2 * (t.val / 76) + 1 by omega]
  show (if (y 1).val / 20 = 1 then _ else _) = _
  by_cases h1 : (y 1).val / 20 = 1
  · rw [if_pos h1, h1]
  · have h0 : (y 1).val / 20 = 0 := by omega
    rw [if_neg h1, h0, Nat.add_zero]
    have e := half0 m c 37 (le_refl _) ⟨t.val - 1, Nat.lt_of_le_of_lt (Nat.sub_le _ _) t.isLt⟩ (by show (t.val - 1) % 76 = 37 + 37; omega) Y (finds3 m c t (by omega) Y hF) y h0
    rw [e]
    show SCALE (accOf m c (2 * ((t.val - 1) / 76))) y = _
    rw [show (t.val - 1) / 76 = t.val / 76 by omega]

/-! ## The arrays at the end -/

/-- Which block of the codes each grid point writes. -/
theorem index2 : ∀ t : Fin cfg0.N, win0_2.index t 0 = t.val / 76 ∧ win0_2.index t 1 = t.val / 38 % 2 := by decide +kernel
/-- Which block of the scales each grid point writes. -/
theorem index3 : ∀ t : Fin cfg0.N, win0_3.index t 0 = t.val / 76 ∧ win0_3.index t 1 = 0 := by decide +kernel

/-- The codes array at the end is the array of all blocks' codes. -/
theorem final2 (after : (w' : Fin cfg0.W) → Fin cfg0.N → (cfg0.win w').block.Idx → Elt F (cfg0.win w').elt)
    (h : ∀ t : Fin cfg0.N, (cfg0.win 2).flush t = true → (rdat m c).Leaves 2 t (after 2 t)) :
    ((rdat m c).withAfter after).arrAt 2 cfg0.N = codesOut m c := by
  refine ((rdat m c).withAfter after).arrAt_eq_of_covers 2 (codesOut m c) (by decide +kernel) fun t hf y => ?_
  have ht : t.val % 38 = 37 := (flush0_2 t).mp hf
  have e := congrFun (leaves2 m c t ht _ (h t hf)) y
  have hi := index2 t
  rw [Pipeline.RDat.withAfter_after]
  refine Eq.trans (b := CODE (accOf m c (t.val / 38)) y) e ?_
  show _ = codesOut m c (((cfg0.win 2).blk t).view.emb y)
  have y0 : (y 0).val < 1280 := (y 0).isLt
  have y1 : (y 1).val < 1280 := (y 1).isLt
  have e0 : ((((cfg0.win 2).blk t).view.emb y : S5120x2560.Idx) 0).val = 1280 * (t.val / 76) + (y 0).val := by
    show win0_2.index t 0 * 1280 + 1 * (y 0).val = _; rw [hi.1]; omega
  have e1 : ((((cfg0.win 2).blk t).view.emb y : S5120x2560.Idx) 1).val = 1280 * (t.val / 38 % 2) + (y 1).val := by
    show win0_2.index t 1 * 1280 + 1 * (y 1).val = _; rw [hi.2]; omega
  unfold codesOut
  have eb : 2 * (((((cfg0.win 2).blk t).view.emb y : S5120x2560.Idx) 0).val / 1280) + ((((cfg0.win 2).blk t).view.emb y : S5120x2560.Idx) 1).val / 1280 = t.val / 38 := by
    rw [e0, e1]; omega
  rw [eb]
  refine congrArg _ (funext fun a => Fin.ext ?_)
  match a with
  | ⟨0, _⟩ => show (y 0).val = ((((cfg0.win 2).blk t).view.emb y : S5120x2560.Idx) 0).val % 1280; rw [e0]; omega
  | ⟨1, _⟩ => show (y 1).val = ((((cfg0.win 2).blk t).view.emb y : S5120x2560.Idx) 1).val % 1280; rw [e1]; omega

/-- The scales array at the end is the array of all blocks' scales. -/
theorem final3 (after : (w' : Fin cfg0.W) → Fin cfg0.N → (cfg0.win w').block.Idx → Elt F (cfg0.win w').elt)
    (h : ∀ t : Fin cfg0.N, (cfg0.win 3).flush t = true → (rdat m c).Leaves 3 t (after 3 t)) :
    ((rdat m c).withAfter after).arrAt 3 cfg0.N = scalesOut m c := by
  refine ((rdat m c).withAfter after).arrAt_eq_of_covers 3 (scalesOut m c) (by decide +kernel) fun t hf y => ?_
  have ht : t.val % 76 = 75 := (flush0_3 t).mp hf
  have e := whole3 m c t ht _ (h t hf) y
  have hi := index3 t
  rw [Pipeline.RDat.withAfter_after]
  refine Eq.trans (b := SCALE (accOf m c (2 * (t.val / 76) + (y 1).val / 20)) y) e ?_
  show _ = scalesOut m c (((cfg0.win 3).blk t).view.emb y)
  have y0 : (y 0).val < 1280 := (y 0).isLt
  have y1 : (y 1).val < 40 := (y 1).isLt
  have e0 : ((((cfg0.win 3).blk t).view.emb y : S5120x40.Idx) 0).val = 1280 * (t.val / 76) + (y 0).val := by
    show win0_3.index t 0 * 1280 + 1 * (y 0).val = _; rw [hi.1]; omega
  have e1 : ((((cfg0.win 3).blk t).view.emb y : S5120x40.Idx) 1).val = (y 1).val := by
    show win0_3.index t 1 * 40 + 1 * (y 1).val = _; rw [hi.2]; omega
  unfold scalesOut
  have eb : 2 * (((((cfg0.win 3).blk t).view.emb y : S5120x40.Idx) 0).val / 1280) + ((((cfg0.win 3).blk t).view.emb y : S5120x40.Idx) 1).val / 20 = 2 * (t.val / 76) + (y 1).val / 20 := by
    rw [e0, e1]; omega
  rw [eb]
  refine congrArg _ (funext fun a => Fin.ext ?_)
  match a with
  | ⟨0, _⟩ => show (y 0).val = ((((cfg0.win 3).blk t).view.emb y : S5120x40.Idx) 0).val % 1280; rw [e0]; omega
  | ⟨1, _⟩ => show (y 1).val = ((((cfg0.win 3).blk t).view.emb y : S5120x40.Idx) 1).val; rw [e1]

/-- The new-error array after `n` blocks, at an index of a block already written. -/
theorem gArr_at (n : ℕ) (x : S5120x5120.Idx) (hx : 2 * ((x 0).val / 1280) + (x 1).val / 2560 < n) :
    gArr (eOf m c) (gOf m c) (xsOf m c) (ysOf m c) n x = nerrOut m c x := by
  have h1 : (x 1).val < 5120 := (x 1).isLt
  induction n with
  | zero => omega
  | succ n ih =>
    rw [gArr]
    unfold setBlk
    by_cases h : (x 0).val / 1280 = n / 2 ∧ (x 1).val / 2560 = n % 2
    · rw [if_pos h]
      unfold nerrOut accOf
      rw [show 2 * ((x 0).val / 1280) + (x 1).val / 2560 = n by omega]
    · rw [if_neg h]
      exact ih (by omega)

/-- The new error after all eight blocks is the array of all blocks' new errors. -/
theorem gArr_end : gArr (eOf m c) (gOf m c) (xsOf m c) (ysOf m c) 8 = nerrOut m c := by
  funext x
  have h0 : (x 0).val < 5120 := (x 0).isLt
  have h1 : (x 1).val < 5120 := (x 1).isLt
  exact gArr_at m c 8 x (by omega)

/-- The kernel's run: its three results at the quantised blocks, its arguments as they were. -/
theorem run_value : θ_run defs (onTc (τ := τ) (main (F := F))) ⟨m, fun _ => 0, ρ⟩ (fun r => ∀ c : Dev nD,
      r.2.mem ((c.tc : Thread nD τ).loc main_v0_0) = codesOut m c
      ∧ r.2.mem ((c.tc : Thread nD τ).loc main_v0_1) = scalesOut m c
      ∧ r.2.mem ((c.tc : Thread nD τ).loc main_v0_2) = nerrOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, hL, hA⟩ := h.1.1.exists_exact c
    refine ⟨(hA 2).trans (final2 m c after fun t hf => hL 2 t hf), (hA 3).trans (final3 m c after fun t hf => hL 3 t hf),
      (h.1.2 c main_v0_2 (by decide)).trans ((G_nerr m c).trans (gArr_end m c)), h.1.1.arr_in c 0 rfl, h.1.1.arr_in c 1 rfl,
      ((h.1.1 c).2 main_arg2 (Finset.mem_sdiff.mpr ⟨Pipeline.mem_restRefs_of main_arg2 (by decide) (by decide), by decide⟩))⟩) (run_main m ρ)

end Cert.KernelIdeal.Hand

end
-- ==== Proof.Quant.lean ====
/-
  The quantiser on one group of 128 entries, over the extended reals: the scale, the clipped code, the byte of two codes,
  and that unpacking a byte gives its codes back.
-/
module

public import Idealize.ShloMosaic.Lib.Pointwise
public import Idealize.ShloMosaic.PureOps.Ideal

@[expose] public section

set_option maxRecDepth 4000

noncomputable section

namespace Quant

open Idealize.ShloMosaic

/-- The largest magnitude of a group. -/
def gmax (f : Fin 128 → Ideal .f32) : Ideal .f32 := Finset.univ.fold max (Ideal.ofBits .f32 0xFF800000#32) (fun l => FloatOps.absf (f l))

/-- The scale of a group: 1 for a group of zeros, else a seventh of its largest magnitude. -/
def gsc (f : Fin 128 → Ideal .f32) : Ideal .f32 := if gmax f = 0 then 1 else Ideal.div (gmax f) (Ideal.ofBits .f32 0x40E00000#32)

/-- The code of an entry as a number: the entry over its scale, rounded to an integer and clipped to [-7, 7]. -/
def qv (v s : Ideal .f32) : Ideal .f32 := min (Scalar.sitofp .f32 7#32 : Ideal .f32) (max (Scalar.sitofp .f32 4294967289#32 : Ideal .f32) (Ideal.liftRound Ideal.roundHalfEven (Ideal.div v s)))

/-- The code of an entry as a 32-bit word. -/
def qw (v s : Ideal .f32) : BitVec 32 := Ideal.fptosi 32 (qv v s)

/-- A rounded extended real clipped to [-7, 7] is an integer in that range. -/
theorem clip_int (x : EReal) : ∃ n : ℤ, -7 ≤ n ∧ n ≤ 7 ∧ min ((7 : ℝ) : EReal) (max ((-7 : ℝ) : EReal) (Ideal.liftRound Ideal.roundHalfEven x)) = ((n : ℝ) : EReal) := by
  induction x using EReal.rec with
  | bot =>
    refine ⟨-7, by norm_num, by norm_num, ?_⟩
    show min _ (max _ (⊥ : EReal)) = _
    rw [max_eq_left bot_le, min_eq_right (by exact_mod_cast (by norm_num : (-7 : ℝ) ≤ 7))]
    norm_num
  | top =>
    refine ⟨7, by norm_num, by norm_num, ?_⟩
    show min _ (max _ (⊤ : EReal)) = _
    rw [max_eq_right le_top, min_eq_left le_top]
    norm_num
  | coe r =>
    refine ⟨min 7 (max (-7) (Ideal.roundHalfEven r)), by omega, by omega, ?_⟩
    show min _ (max _ (((Ideal.roundHalfEven r : ℤ) : ℝ) : EReal)) = _
    push_cast
    rw [EReal.coe_strictMono.monotone.map_min, EReal.coe_strictMono.monotone.map_max]
    rfl

/-- The code is an integer in [-7, 7], and its word is that integer's. -/
theorem qv_int (v s : Ideal .f32) : ∃ n : ℤ, -7 ≤ n ∧ n ≤ 7 ∧ qv v s = ((n : ℝ) : EReal) ∧ qw v s = BitVec.ofInt 32 n := by
  obtain ⟨n, h0, h1, e⟩ := clip_int (Ideal.div v s)
  have e' : qv v s = ((n : ℝ) : EReal) := by
    rw [← e]
    unfold qv
    rw [Ideal.scalar_sitofp_def, Ideal.scalar_sitofp_def, show (7#32).toInt = 7 by decide, show (4294967289#32).toInt = -7 by decide]
    norm_cast
  refine ⟨n, h0, h1, e', ?_⟩
  unfold qw
  rw [e']
  show BitVec.ofInt 32 (max _ (min _ (if (0 : ℝ) ≤ (n : ℝ) then ⌊(n : ℝ)⌋ else ⌈(n : ℝ)⌉))) = _
  rw [Int.floor_intCast, Int.ceil_intCast, ite_self]
  congr 1
  norm_num
  omega

/-- The byte of two codes: the first in the low half, the second in the high half. -/
def byte (a b : BitVec 32) : BitVec 8 := ((a &&& 15#32) ||| ((b &&& 15#32) <<< 4)).setWidth 8

/-- A half byte widened, with its sign put back. -/
def signed (x : BitVec 32) : BitVec 32 := if 8 ≤ x.toInt then x - 16#32 else x

/-- Unpacking the low half of a byte gives the first code back. -/
theorem unpack_lo (a b : ℤ) (ha : -7 ≤ a ∧ a ≤ 7) (hb : -7 ≤ b ∧ b ≤ 7) :
    signed ((byte (BitVec.ofInt 32 a) (BitVec.ofInt 32 b)).setWidth 32 &&& 15#32) = BitVec.ofInt 32 a := by
  obtain ⟨a0, a1⟩ := ha
  obtain ⟨b0, b1⟩ := hb
  interval_cases a <;> interval_cases b <;> decide

/-- Unpacking the high half of a byte gives the second code back. -/
theorem unpack_hi (a b : ℤ) (ha : -7 ≤ a ∧ a ≤ 7) (hb : -7 ≤ b ∧ b ≤ 7) :
    signed (((byte (BitVec.ofInt 32 a) (BitVec.ofInt 32 b)).setWidth 32).sshiftRight 4) = BitVec.ofInt 32 b := by
  obtain ⟨a0, a1⟩ := ha
  obtain ⟨b0, b1⟩ := hb
  interval_cases a <;> interval_cases b <;> decide

/-- An integer in [-7, 7] as a word, read back as a number. -/
theorem toInt_small (n : ℤ) (h : -7 ≤ n ∧ n ≤ 7) : (BitVec.ofInt 32 n).toInt = n := by
  obtain ⟨h0, h1⟩ := h
  interval_cases n <;> decide

end Quant

end
-- ==== Proof.Group.lean ====
/-
  The kernel's quantised values at an index, over the extended reals, in the quantiser's words.
-/
module

public import proofs.«01_k».proof.Proof.LoopVal
public import proofs.«01_k».proof.Proof.Quant
public import Idealize.ShloMosaic.Lib.Pointwise
public import Idealize.ShloMosaic.Lib.BitcastFour
public import Idealize.ShloMosaic.PureOps.Ideal

@[expose] public section

set_option maxRecDepth 4000

noncomputable section

namespace Cert.KernelIdeal.Hand

open Idealize.ShloMosaic Quant
open Cert.KernelIdeal Cert.KernelIdeal.Gen

/-- Row `r` of a chunk. -/
def rowOf (v : Vec Ideal S1x32x128 .f32) (r : Fin 32) : Fin 128 → Ideal .f32 := fun l => v (ix3 (0 : Fin 1) r l)

/-- The kernel's scale of a row is the quantiser's. -/
theorem pay3_at (v : Vec Ideal S1x32x128 .f32) (r : Fin 32) : k0_pay3 v (ix2 r (0 : Fin 1)) = gsc (rowOf v r) := by
  unfold k0_pay3 k0_pay2 gsc gmax rowOf
  pointwise

/-- The kernel's code of an entry is the quantiser's. -/
theorem pay4_at (v : Vec Ideal S1x32x128 .f32) (r : Fin 32) (l : Fin 128) : k0_pay4 v (ix2 r l) = qv (rowOf v r l) (gsc (rowOf v r)) := by
  rw [← pay3_at]
  unfold k0_pay4 k0_pay2 qv rowOf
  pointwise

/-- The kernel's new error is the entry less its code times the scale. -/
theorem pay5_at (v : Vec Ideal S1x32x128 .f32) (r : Fin 32) (l : Fin 128) :
    k0_pay5 v (ix3 (0 : Fin 1) r l) = rowOf v r l - qv (rowOf v r l) (gsc (rowOf v r)) * gsc (rowOf v r) := by
  rw [← pay4_at, ← pay3_at]
  unfold k0_pay5 k0_pay2 rowOf
  pointwise

/-- The codes of a chunk as bytes, a code in the low half of each. -/
def nibs (v : Vec Ideal S1x32x128 .f32) : IVec S32x128 8 := trunci 8 (andi (fptosi 32 (k0_pay4 v)) (broadcast S32x128 15#32)) natLt_8_32

/-- The byte of an entry is the low four bits of its code. -/
theorem nibs_at (v : Vec Ideal S1x32x128 .f32) (r : Fin 32) (l : Fin 128) : nibs v (ix2 r l) = (qw (rowOf v r l) (gsc (rowOf v r)) &&& 15#32).setWidth 8 := by
  unfold qw
  rw [← pay4_at]
  rfl

/-- The codes of a chunk as words, four rows to a word. -/
def wds (v : Vec Ideal S1x32x128 .f32) : IVec S8x128 32 := bitcast S8x128 32 (nibs v) bitcasts_S32x128_w8_S8x128_w32

/-- Bit `8 b + q` of the word at row `a` is bit `q` of the byte at row `4 a + b`. -/
theorem wds_bit (v : Vec Ideal S1x32x128 .f32) (r : Fin 32) (l : Fin 128) (q : ℕ) (hq : q < 8) :
    (wds v (ix2 (⟨r.val / 4, by omega⟩ : Fin 8) l)).getLsbD (8 * (r.val % 4) + q) = (nibs v (ix2 r l)).getLsbD q := by
  unfold wds
  have e := bitcast_8_32_getLsbD_ix2 (nibs v) bitcasts_S32x128_w8_S8x128_w32 (⟨r.val / 4, by omega⟩ : Fin 8) l (8 * (r.val % 4) + q) (by omega) r
    (by show r.val = 4 * (r.val / 4) + (8 * (r.val % 4) + q) / 8; omega)
  rw [show (8 * (r.val % 4) + q) % 8 = q by omega] at e
  exact e

/-- The high four bits of these bytes are zero. -/
theorem nibs_high (v : Vec Ideal S1x32x128 .f32) (r : Fin 32) (l : Fin 128) (q : ℕ) (hq : 4 ≤ q) : (nibs v (ix2 r l)).getLsbD q = false := by
  rw [nibs_at, BitVec.getLsbD_setWidth, BitVec.getLsbD_and]
  have h : (15#32).getLsbD q = false := by
    by_cases h32 : q < 32
    · interval_cases q <;> decide
    · exact BitVec.getLsbD_of_ge _ _ (by omega)
  rw [h, Bool.and_false, Bool.and_false]

/-- A word joined with a neighbour's four bits up holds, in every byte, the byte of the two codes. -/
theorem pair_bit (v : Vec Ideal S1x32x128 .f32) (r : Fin 32) (l l' : Fin 128) (q : ℕ) (hq : q < 8) :
    (wds v (ix2 (⟨r.val / 4, by omega⟩ : Fin 8) l) ||| wds v (ix2 (⟨r.val / 4, by omega⟩ : Fin 8) l') <<< 4).getLsbD (8 * (r.val % 4) + q)
      = (byte (qw (rowOf v r l) (gsc (rowOf v r))) (qw (rowOf v r l') (gsc (rowOf v r)))).getLsbD q := by
  unfold byte
  rw [BitVec.getLsbD_or, wds_bit v r l q hq, BitVec.getLsbD_setWidth, BitVec.getLsbD_or, nibs_at, BitVec.getLsbD_setWidth, BitVec.getLsbD_shiftLeft, BitVec.getLsbD_shiftLeft]
  simp only [hq, decide_true, Bool.true_and]
  congr 1
  by_cases h4 : q < 4
  · simp only [h4, decide_true, Bool.not_true, Bool.and_false, Bool.false_and]
    by_cases h0 : r.val % 4 = 0
    · simp [h0, h4]
    · have e := wds_bit v (⟨r.val - 1, by omega⟩ : Fin 32) l' (q + 4) (by omega)
      rw [nibs_high _ _ _ _ (by omega)] at e
      have ea : (⟨(r.val - 1) / 4, by omega⟩ : Fin 8) = ⟨r.val / 4, by omega⟩ := Fin.ext (by show (r.val - 1) / 4 = r.val / 4; omega)
      have eb : 8 * ((r.val - 1) % 4) + (q + 4) = 8 * (r.val % 4) + q - 4 := by omega
      simp only [ea, eb] at e
      rw [e, Bool.and_false]
  · have e := wds_bit v r l' (q - 4) (by omega)
    rw [nibs_at, BitVec.getLsbD_setWidth] at e
    rw [show 8 * (r.val % 4) + q - 4 = 8 * (r.val % 4) + (q - 4) by omega, e]
    have h1 : ¬ (8 * (r.val % 4) + q < 4) := by omega
    have h2 : 8 * (r.val % 4) + q < 32 := by omega
    have h3 : q - 4 < 8 := by omega
    have h5 : q < 32 := by omega
    simp [h1, h2, h3, h4, h5]

/-- The permutation's lanes as the kernel computes them. -/
def permV : IVec S8x128 32 := select (cmpi CmpIPredicate.slt k0_pay150 (broadcast S8x128 0#32)) (addi k0_pay150 (broadcast S8x128 128#32)) k0_pay150

/-- The lane that the permutation reads at lane `l`. -/
def permL (l : Fin 128) : Fin 128 := ⟨2 * (l.val % 64) + l.val / 64, by omega⟩

/-- The permutation's lane as computed by the kernel is `permL`. -/
theorem perm_at (r : Fin 8) (l : Fin 128) : permV (ix2 r l) = BitVec.ofNat 32 (permL l).val := by
  unfold permV k0_pay150
  pointwise
  revert l
  decide

/-- The joined words before the permutation. -/
def joined (va vb : Vec Ideal S1x32x128 .f32) : IVec S8x128 32 :=
  select k0_pay149 (ori (dynamicRotate 1 (1#32) none (wds vb) rotates_S8x128_d1) (shli (wds vb) (broadcast S8x128 4#32)))
    (ori (wds va) (shli (dynamicRotate 1 (127#32) none (wds va) rotates_S8x128_d1) (broadcast S8x128 4#32)))

/-- The mask is set at odd lanes. -/
theorem odd_at (a : Fin 8) (p : Fin 128) : k0_pay149 (ix2 a p) = BitVec.ofBool (decide (p.val % 2 = 1)) := by
  unfold k0_pay149
  pointwise
  revert p
  decide

/-- At odd lanes the second chunk's words of the lane before and the lane are joined, at even lanes the first chunk's of the lane and the lane after. -/
theorem joined_at (va vb : Vec Ideal S1x32x128 .f32) (a : Fin 8) (p : Fin 128) : joined va vb (ix2 a p)
    = if p.val % 2 = 1 then wds vb (ix2 a (⟨(p.val + 127) % 128, by omega⟩ : Fin 128)) ||| wds vb (ix2 a p) <<< 4
      else wds va (ix2 a p) ||| wds va (ix2 a (⟨(p.val + 1) % 128, by omega⟩ : Fin 128)) <<< 4 := by
  unfold joined
  generalize wds va = x
  generalize wds vb = y
  have hs : ∀ (c : IVec S8x128 1) (u w : IVec S8x128 32), select c u w (ix2 a p) = Scalar.select (c (ix2 a p)) (u (ix2 a p)) (w (ix2 a p)) := fun _ _ _ => rfl
  rw [hs, odd_at]
  have e1 : (ori (dynamicRotate 1 (1#32) none y rotates_S8x128_d1) (shli y (broadcast S8x128 4#32))) (ix2 a p) = y (ix2 a (⟨(p.val + 127) % 128, by omega⟩ : Fin 128)) ||| y (ix2 a p) <<< 4 := by
    pointwise
    rfl
  have e2 : (ori x (shli (dynamicRotate 1 (127#32) none x rotates_S8x128_d1) (broadcast S8x128 4#32))) (ix2 a p) = x (ix2 a p) ||| x (ix2 a (⟨(p.val + 1) % 128, by omega⟩ : Fin 128)) <<< 4 := by
    pointwise
    rfl
  rw [e1, e2]
  by_cases h : p.val % 2 = 1 <;> simp [h, Scalar.select]

/-- The packed codes of two chunks are the joined words, permuted and read as bytes. -/
theorem codesC_eq (va vb : Vec Ideal S1x32x128 .f32) : codesC va vb = bitcast S32x128 8 (dynamicGather 1 (joined va vb) permV) bitcasts_S8x128_w32_S32x128_w8 := by
  have e : ∀ x : IVec S8x128 32, shapeCast S8x128 (shapeCast S8x128x1 x shapeCasts_S8x128_S8x128x1) shapeCasts_S8x128x1_S8x128 = x := by
    intro x
    funext j
    idx_vars j
    pointwise
  show bitcast S32x128 8 (dynamicGather 1 (joined va vb) (shapeCast S8x128 (shapeCast S8x128x1 permV shapeCasts_S8x128_S8x128x1) shapeCasts_S8x128x1_S8x128)) bitcasts_S8x128_w32_S32x128_w8 = _
  rw [e]

/-- A bit of the permuted bytes is a bit of the joined words. -/
theorem codesC_bit (va vb : Vec Ideal S1x32x128 .f32) (r : Fin 32) (l : Fin 128) (q : ℕ) (hq : q < 8) :
    (codesC va vb (ix2 r l)).getLsbD q = (joined va vb (ix2 (⟨r.val / 4, by omega⟩ : Fin 8) (permL l))).getLsbD (8 * (r.val % 4) + q) := by
  rw [codesC_eq, bitcast_getLsbD _ _ _ q hq (by decide)]
  have hr : Shape.row (s := S32x128) (ix2 r l) = r.val := rfl
  have h1 : (Shape.row (s := S32x128) (ix2 r l) * 8 + q) / 32 = r.val / 4 := by rw [hr]; omega
  have h2 : (Shape.row (s := S32x128) (ix2 r l) * 8 + q) % 32 = 8 * (r.val % 4) + q := by rw [hr]; omega
  refine congrArg₂ BitVec.getLsbD ?_ h2
  show joined va vb _ = joined va vb _
  refine congrArg (joined va vb) (funext fun b => ?_)
  match b with
  | ⟨0, _⟩ => exact Fin.ext h1
  | ⟨1, _⟩ =>
    refine Fin.ext ?_
    show (permV _).toNat % 128 = (permL l).val
    have ej : ∀ hp, bitcasts_S8x128_w32_S32x128_w8.srcIdx (ix2 r l) ((Shape.row (s := S32x128) (ix2 r l) * 8 + q) / 32) hp = ix2 (⟨r.val / 4, by omega⟩ : Fin 8) l := fun hp => funext fun b => by
      match b with
      | ⟨0, _⟩ => exact Fin.ext h1
      | ⟨1, _⟩ => rfl
    rw [ej, perm_at, BitVec.toNat_ofNat]
    have := (permL l).isLt
    omega

/-- A byte of the kernel: the lanes below 64 hold the first chunk's codes, the others the second's. -/
theorem codesC_at (va vb : Vec Ideal S1x32x128 .f32) (r : Fin 32) (l : Fin 128) : codesC va vb (ix2 r l)
    = if l.val < 64 then byte (qw (rowOf va r ⟨2 * (l.val % 64), by omega⟩) (gsc (rowOf va r))) (qw (rowOf va r ⟨2 * (l.val % 64) + 1, by omega⟩) (gsc (rowOf va r)))
      else byte (qw (rowOf vb r ⟨2 * (l.val % 64), by omega⟩) (gsc (rowOf vb r))) (qw (rowOf vb r ⟨2 * (l.val % 64) + 1, by omega⟩) (gsc (rowOf vb r))) := by
  refine BitVec.eq_of_getLsbD_eq fun q hq => ?_
  rw [codesC_bit va vb r l q hq, joined_at]
  by_cases h : l.val < 64
  · have e1 : permL l = ⟨2 * (l.val % 64), by omega⟩ := Fin.ext (by show 2 * (l.val % 64) + l.val / 64 = 2 * (l.val % 64); omega)
    rw [if_pos h, e1, if_neg (by show ¬ 2 * (l.val % 64) % 2 = 1; omega), pair_bit va r _ _ q hq]
    exact congrArg (fun k => (byte _ (qw (rowOf va r k) (gsc (rowOf va r)))).getLsbD q) (Fin.ext (by show (2 * (l.val % 64) + 1) % 128 = 2 * (l.val % 64) + 1; omega))
  · have e1 : permL l = ⟨2 * (l.val % 64) + 1, by omega⟩ := Fin.ext (by show 2 * (l.val % 64) + l.val / 64 = 2 * (l.val % 64) + 1; omega)
    rw [if_neg h, e1, if_pos (by show (2 * (l.val % 64) + 1) % 2 = 1; omega), pair_bit vb r _ _ q hq]
    exact congrArg (fun k => (byte (qw (rowOf vb r k) (gsc (rowOf vb r))) _).getLsbD q) (Fin.ext (by show (2 * (l.val % 64) + 1 + 127) % 128 = 2 * (l.val % 64); omega))

end Cert.KernelIdeal.Hand

end
-- ==== Proof.RefVal.lean ====
/-
  The reference's three results at an index, in the quantiser's words.
-/
module

public import proofs.«01_k».proof.Proof.Gen.ReferenceIdeal.Run
public import proofs.«01_k».proof.Proof.Quant
public import Idealize.ShloMosaic.Lib.Tactic.CleanTypes

@[expose] public section

set_option maxRecDepth 8000
set_option maxHeartbeats 4000000

noncomputable section

namespace Cert.ReferenceIdeal.Hand

open Idealize.ShloMosaic Idealize.ShloMosaic.TcCoe Idealize.SL.Sem Quant
open Cert.ReferenceIdeal Cert.ReferenceIdeal.Gen

/-- A gradient with its error, as the reference holds it. -/
abbrev Mat : Type := FVec Ideal S5120x5120 .f32

/-- The largest magnitude of every group. -/
def rmax (v : Mat) : FVec Ideal S5120x40 .f32 := (Host.reduce FloatOps.maximumf (Host.absf (shapeCast _ v shapeCasts_S5120x5120_S5120x40x128)) (constant S_ .f32 0xFF800000#32) reducesTo_S5120x40x128_S5120x40_d2 h_S_)

/-- The scales. -/
def rscale (v : Mat) : FVec Ideal S5120x40 .f32 := (select (cmpf .oeq (rmax v) (broadcastInDim S5120x40 ![] bcast_S_S5120x40 (constant S_ .f32 0x00000000#32))) (broadcastInDim S5120x40 ![] bcast_S_S5120x40 (id (constant S_ .f32 0x3F800000#32))) (Host.divf (rmax v) (broadcastInDim S5120x40 ![] bcast_S_S5120x40 (constant S_ .f32 0x40E00000#32))))

/-- The codes as words, by group. -/
def rq (v : Mat) : IVec S5120x40x128 32 := (fptosi 32 (minimumf (broadcastInDim S5120x40x128 ![] bcast_S_S5120x40x128 (sitofp .f32 (constantI S_ 32 7#32))) (maximumf (broadcastInDim S5120x40x128 ![] bcast_S_S5120x40x128 (sitofp .f32 (constantI S_ 32 4294967289#32))) (Host.roundeven (Host.divf (shapeCast _ v shapeCasts_S5120x5120_S5120x40x128) (broadcastInDim S5120x40x128 ![0, 1, 2] bcast_S5120x40x1_S5120x40x128_0_1_2 (broadcastInDim S5120x40x1 ![0, 1] bcast_S5120x40_S5120x40x1_0_1 (rscale v))))))))

/-- Two codes to a byte. -/
def rcodes (v : Mat) : IVec S5120x2560 8 := (trunci 8 (ori (Host.slice S5120x2560 ![0, 0] ![1, 2] (andi (shapeCast _ (rq v) shapeCasts_S5120x40x128_S5120x5120) (broadcastInDim S5120x5120 ![] bcast_S_S5120x5120 (constantI S_ 32 15#32))) slicesBy_S5120x5120_S5120x2560_0s1_0s2) (Host.shli (Host.slice S5120x2560 ![0, 1] ![1, 2] (andi (shapeCast _ (rq v) shapeCasts_S5120x40x128_S5120x5120) (broadcastInDim S5120x5120 ![] bcast_S_S5120x5120 (constantI S_ 32 15#32))) slicesBy_S5120x5120_S5120x2560_0s1_1s2) (broadcastInDim S5120x2560 ![] bcast_S_S5120x2560 (constantI S_ 32 4#32)))) natLt_8_32)

/-- The low half of every byte, its sign put back. -/
def unlo (w : IVec S5120x2560 8) : IVec S5120x2560 32 := (select (cmpi .sge (andi (extui 32 w natLt_8_32) (broadcastInDim S5120x2560 ![] bcast_S_S5120x2560 (constantI S_ 32 15#32))) (broadcastInDim S5120x2560 ![] bcast_S_S5120x2560 (constantI S_ 32 8#32))) (subi (andi (extui 32 w natLt_8_32) (broadcastInDim S5120x2560 ![] bcast_S_S5120x2560 (constantI S_ 32 15#32))) (broadcastInDim S5120x2560 ![] bcast_S_S5120x2560 (constantI S_ 32 16#32))) (andi (extui 32 w natLt_8_32) (broadcastInDim S5120x2560 ![] bcast_S_S5120x2560 (constantI S_ 32 15#32))))

/-- The high half of every byte, its sign put back. -/
def unhi (w : IVec S5120x2560 8) : IVec S5120x2560 32 := (select (cmpi .sge (Host.shrsi (extui 32 w natLt_8_32) (broadcastInDim S5120x2560 ![] bcast_S_S5120x2560 (constantI S_ 32 4#32))) (broadcastInDim S5120x2560 ![] bcast_S_S5120x2560 (constantI S_ 32 8#32))) (subi (Host.shrsi (extui 32 w natLt_8_32) (broadcastInDim S5120x2560 ![] bcast_S_S5120x2560 (constantI S_ 32 4#32))) (broadcastInDim S5120x2560 ![] bcast_S_S5120x2560 (constantI S_ 32 16#32))) (Host.shrsi (extui 32 w natLt_8_32) (broadcastInDim S5120x2560 ![] bcast_S_S5120x2560 (constantI S_ 32 4#32))))

/-- The new error. -/
def rerr (v : Mat) : Mat := shapeCast _ (subf (shapeCast _ v shapeCasts_S5120x5120_S5120x40x128) (mulf (sitofp .f32 (shapeCast _ (concatenate S5120x2560x2 2 [⟨S5120x2560x1, (broadcastInDim S5120x2560x1 ![0, 1] bcast_S5120x2560_S5120x2560x1_0_1 (unlo (rcodes v)))⟩, ⟨S5120x2560x1, (broadcastInDim S5120x2560x1 ![0, 1] bcast_S5120x2560_S5120x2560x1_0_1 (unhi (rcodes v)))⟩] concatenates_S5120x2560x1_S5120x2560x1_S5120x2560x2_d2) shapeCasts_S5120x2560x2_S5120x40x128)) (broadcastInDim S5120x40x128 ![0, 1, 2] bcast_S5120x40x1_S5120x40x128_0_1_2 (broadcastInDim S5120x40x1 ![0, 1] bcast_S5120x40_S5120x40x1_0_1 (rscale v))))) shapeCasts_S5120x40x128_S5120x5120

/-- Group `c` of row `r`. -/
def grpOf (v : Mat) (r : Fin 5120) (c : Fin 40) : Fin 128 → Ideal .f32 := fun l => v (ix2 r (⟨c.val * 128 + l.val, by omega⟩ : Fin 5120))

/-- The reference's maximum of a group is the group's largest magnitude. -/
theorem rmax_at (v : Mat) (r : Fin 5120) (c : Fin 40) : rmax v (ix2 r c) = gmax (grpOf v r c) := by
  unfold rmax gmax grpOf
  pointwise

/-- The reference's scale from a maximum: 1 for zero, else a seventh of it. -/
theorem scale_of_max (a : FVec Ideal S5120x40 .f32) (j : S5120x40.Idx) : (select (cmpf .oeq a (broadcastInDim S5120x40 ![] bcast_S_S5120x40 (constant S_ .f32 0x00000000#32))) (broadcastInDim S5120x40 ![] bcast_S_S5120x40 (id (constant S_ .f32 0x3F800000#32))) (Host.divf a (broadcastInDim S5120x40 ![] bcast_S_S5120x40 (constant S_ .f32 0x40E00000#32)))) j = if a j = 0 then 1 else Ideal.div (a j) (Ideal.ofBits .f32 0x40E00000#32) := by
  show Scalar.select (Ideal.cmp .oeq (a j) (Ideal.ofBits .f32 0x00000000#32)) (Ideal.ofBits .f32 0x3F800000#32) (Ideal.div (a j) (Ideal.ofBits .f32 0x40E00000#32)) = _
  rw [Ideal.ofBits_one_f32, Ideal.ofBits_zero_f32]
  unfold Scalar.select Ideal.cmp
  by_cases h : a j = 0 <;> simp [h]

/-- The reference's scale of a group is the quantiser's. -/
theorem rscale_at (v : Mat) (r : Fin 5120) (c : Fin 40) : rscale v (ix2 r c) = gsc (grpOf v r c) := by
  unfold rscale gsc
  rw [scale_of_max, rmax_at]

/-- A group's number repeated along the group. -/
theorem bc_at (s : FVec Ideal S5120x40 .f32) (r : Fin 5120) (c : Fin 40) (l : Fin 128) : (broadcastInDim S5120x40x128 ![0, 1, 2] bcast_S5120x40x1_S5120x40x128_0_1_2 (broadcastInDim S5120x40x1 ![0, 1] bcast_S5120x40_S5120x40x1_0_1 s)) (ix3 r c l) = s (ix2 r c) := by
  pointwise

/-- The matrix cut into groups. -/
theorem vb_at (v : Mat) (r : Fin 5120) (c : Fin 40) (l : Fin 128) : (shapeCast _ v shapeCasts_S5120x5120_S5120x40x128 : FVec Ideal S5120x40x128 .f32) (ix3 r c l) = grpOf v r c l := by
  unfold grpOf
  pointwise

/-- A whole number repeated over the array. -/
theorem num_at (n : BitVec 32) (r : Fin 5120) (c : Fin 40) (l : Fin 128) : (broadcastInDim S5120x40x128 ![] bcast_S_S5120x40x128 (sitofp (F := Ideal) .f32 (constantI S_ 32 n))) (ix3 r c l) = Scalar.sitofp .f32 n := rfl

/-- Dividing, rounding and clipping, at one entry. -/
theorem clip_at (a b d e : FVec Ideal S5120x40x128 .f32) (j : S5120x40x128.Idx) : fptosi 32 (minimumf a (maximumf b (Host.roundeven (Host.divf d e)))) j = Ideal.fptosi 32 (min (a j) (max (b j) (Ideal.liftRound Ideal.roundHalfEven (Ideal.div (d j) (e j))))) := rfl

/-- The reference's code word is the quantiser's. -/
theorem rq_at (v : Mat) (r : Fin 5120) (c : Fin 40) (l : Fin 128) : rq v (ix3 r c l) = qw (grpOf v r c l) (gsc (grpOf v r c)) := by
  unfold rq qw qv
  rw [clip_at, num_at, num_at, bc_at, vb_at, rscale_at]

/-- A byte of the reference's codes, from the codes of its two entries. -/
theorem rcodes_rq (v : Mat) (r : Fin 5120) (y : Fin 2560) : rcodes v (ix2 r y) = byte (rq v (ix3 r (⟨2 * y.val / 128, by omega⟩ : Fin 40) (⟨2 * y.val % 128, by omega⟩ : Fin 128))) (rq v (ix3 r (⟨(1 + 2 * y.val) / 128, by omega⟩ : Fin 40) (⟨(1 + 2 * y.val) % 128, by omega⟩ : Fin 128))) := by
  unfold rcodes byte
  pointwise
  rfl

/-- A byte of the reference holds the codes of an even entry and of the odd entry after it. -/
theorem rcodes_at (v : Mat) (r : Fin 5120) (c : Fin 40) (k : Fin 64) : rcodes v (ix2 r (⟨c.val * 64 + k.val, by omega⟩ : Fin 2560))
    = byte (qw (grpOf v r c ⟨2 * k.val, by omega⟩) (gsc (grpOf v r c))) (qw (grpOf v r c ⟨2 * k.val + 1, by omega⟩) (gsc (grpOf v r c))) := by
  rw [rcodes_rq, ← rq_at, ← rq_at]
  have e1 : (⟨2 * (c.val * 64 + k.val) / 128, by omega⟩ : Fin 40) = c := Fin.ext (by show 2 * (c.val * 64 + k.val) / 128 = c.val; omega)
  have e2 : (⟨2 * (c.val * 64 + k.val) % 128, by omega⟩ : Fin 128) = ⟨2 * k.val, by omega⟩ := Fin.ext (by show 2 * (c.val * 64 + k.val) % 128 = 2 * k.val; omega)
  have e3 : (⟨(1 + 2 * (c.val * 64 + k.val)) / 128, by omega⟩ : Fin 40) = c := Fin.ext (by show (1 + 2 * (c.val * 64 + k.val)) / 128 = c.val; omega)
  have e4 : (⟨(1 + 2 * (c.val * 64 + k.val)) % 128, by omega⟩ : Fin 128) = ⟨2 * k.val + 1, by omega⟩ := Fin.ext (by show (1 + 2 * (c.val * 64 + k.val)) % 128 = 2 * k.val + 1; omega)
  exact congrArg₂ byte (congrArg (rq v) (congrArg₂ (ix3 r) e1 e2)) (congrArg (rq v) (congrArg₂ (ix3 r) e3 e4))

/-- Putting the sign back as the reference does it is `signed`. -/
theorem select_sge (x : BitVec 32) : Scalar.select (IntOp.cmpi .sge x 8#32) (x - 16#32) x = signed x := by
  unfold signed Scalar.select
  show (if BitVec.ofBool ((8#32).sle x) = 1 then _ else _) = _
  have e : (8#32).toInt = 8 := by decide
  by_cases h : 8 ≤ x.toInt <;> simp [BitVec.sle, e, h]

/-- Unpacking a byte's low half, at one entry. -/
theorem unlo_at (w : IVec S5120x2560 8) (j : S5120x2560.Idx) : unlo w j = signed ((w j).setWidth 32 &&& 15#32) := by
  show Scalar.select (IntOp.cmpi .sge ((w j).setWidth 32 &&& 15#32) 8#32) (((w j).setWidth 32 &&& 15#32) - 16#32) ((w j).setWidth 32 &&& 15#32) = _
  exact select_sge _

/-- Unpacking a byte's high half, at one entry. -/
theorem unhi_at (w : IVec S5120x2560 8) (j : S5120x2560.Idx) : unhi w j = signed (((w j).setWidth 32).sshiftRight 4) := by
  show Scalar.select (IntOp.cmpi .sge (((w j).setWidth 32).sshiftRight 4) 8#32) ((((w j).setWidth 32).sshiftRight 4) - 16#32) (((w j).setWidth 32).sshiftRight 4) = _
  exact select_sge _

/-- The two unpacked halves interleaved: even lanes from the first, odd lanes from the second. -/
theorem cat_at (a b : IVec S5120x2560 32) (r : Fin 5120) (c : Fin 40) (l : Fin 128) : shapeCast S5120x40x128 (concatenate S5120x2560x2 2 [⟨S5120x2560x1, broadcastInDim S5120x2560x1 ![0, 1] bcast_S5120x2560_S5120x2560x1_0_1 a⟩, ⟨S5120x2560x1, broadcastInDim S5120x2560x1 ![0, 1] bcast_S5120x2560_S5120x2560x1_0_1 b⟩] concatenates_S5120x2560x1_S5120x2560x1_S5120x2560x2_d2) shapeCasts_S5120x2560x2_S5120x40x128 (ix3 r c l) = if l.val % 2 < 1 then a (ix2 r (⟨c.val * 64 + l.val / 2, by omega⟩ : Fin 2560)) else b (ix2 r (⟨c.val * 64 + l.val / 2, by omega⟩ : Fin 2560)) := by
  pointwise
  rfl

/-- The unpacked codes are the codes. -/
theorem unpack_at (v : Mat) (r : Fin 5120) (c : Fin 40) (l : Fin 128) :
    (if l.val % 2 < 1 then unlo (rcodes v) (ix2 r (⟨c.val * 64 + l.val / 2, by omega⟩ : Fin 2560)) else unhi (rcodes v) (ix2 r (⟨c.val * 64 + l.val / 2, by omega⟩ : Fin 2560)))
      = qw (grpOf v r c l) (gsc (grpOf v r c)) := by
  rw [unlo_at, unhi_at]
  have e := rcodes_at v r c ⟨l.val / 2, by omega⟩
  rw [e]
  obtain ⟨n0, a0, b0, -, e0⟩ := qv_int (grpOf v r c ⟨2 * (l.val / 2), by omega⟩) (gsc (grpOf v r c))
  obtain ⟨n1, a1, b1, -, e1⟩ := qv_int (grpOf v r c ⟨2 * (l.val / 2) + 1, by omega⟩) (gsc (grpOf v r c))
  by_cases h : l.val % 2 < 1
  · rw [if_pos h, e0, e1, unpack_lo n0 n1 ⟨a0, b0⟩ ⟨a1, b1⟩, ← e0]
    exact congrArg (fun k => qw (grpOf v r c k) (gsc (grpOf v r c))) (Fin.ext (by show 2 * (l.val / 2) = l.val; omega))
  · rw [if_neg h, e0, e1, unpack_hi n0 n1 ⟨a0, b0⟩ ⟨a1, b1⟩, ← e1]
    exact congrArg (fun k => qw (grpOf v r c k) (gsc (grpOf v r c))) (Fin.ext (by show 2 * (l.val / 2) + 1 = l.val; omega))

/-- Groups laid back into a matrix. -/
theorem flat_at (x : FVec Ideal S5120x40x128 .f32) (r : Fin 5120) (c : Fin 40) (l : Fin 128) : shapeCast S5120x5120 x shapeCasts_S5120x40x128_S5120x5120 (ix2 r (⟨c.val * 128 + l.val, by omega⟩ : Fin 5120)) = x (ix3 r c l) := by
  pointwise

/-- An entry less its code times the scale. -/
theorem sub_at (a d : FVec Ideal S5120x40x128 .f32) (b : IVec S5120x40x128 32) (j : S5120x40x128.Idx) : subf a (mulf (sitofp .f32 b) d) j = a j - ((((b j).toInt : ℝ) : EReal) : Ideal .f32) * d j := rfl

/-- The reference's new error is the entry less its code times the scale. -/
theorem rerr_at (v : Mat) (r : Fin 5120) (c : Fin 40) (l : Fin 128) : rerr v (ix2 r (⟨c.val * 128 + l.val, by omega⟩ : Fin 5120))
    = grpOf v r c l - qv (grpOf v r c l) (gsc (grpOf v r c)) * gsc (grpOf v r c) := by
  unfold rerr
  rw [flat_at, sub_at, vb_at, bc_at, rscale_at, cat_at, unpack_at]
  obtain ⟨n, a0, b0, e0, e1⟩ := qv_int (grpOf v r c l) (gsc (grpOf v r c))
  rw [e0, e1, toInt_small n ⟨a0, b0⟩]

/-! ## The run -/

/-- The gradient with its error, of two matrices of tokens and an error. -/
def gsum (x d : FVec Ideal S38912x5120 .bf16) (e : Mat) : Mat :=
  addf (Host.dotGeneral dot_S38912x5120_S38912x5120_S5120x5120_0_0_1_1_n_n none x d) e

/-- It is the whole contraction plus the error. -/
theorem gsum_at (x d : FVec Ideal S38912x5120 .bf16) (e : Mat) (r y : Fin 5120) :
    gsum x d e (ix2 r y) = (∑ t : Fin 38912, x (ix2 t r) * d (ix2 t y)) + e (ix2 r y) := by
  unfold gsum
  pointwise

/-- The gradient of the arguments, its error added. -/
abbrev refMat (m : (ℓ : Loc nD τ sig) → Buf (Elt Ideal) ℓ) (c : Dev nD) : Mat :=
  gsum (m ((c.tc : Thread nD τ).loc main_arg0)) (m ((c.tc : Thread nD τ).loc main_arg1)) (m ((c.tc : Thread nD τ).loc main_arg2))

/-- The reference's run: its three results in `rcodes`, `rscale` and `rerr`, its arguments as they were. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = rcodes (refMat m c)
      ∧ r.2.mem ((c.tc : Thread nD τ).loc main_v9) = rscale (refMat m c)
      ∧ r.2.mem ((c.tc : Thread nD τ).loc main_v49) = rerr (refMat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by unfold rcodes rq rscale rmax refMat gsum; rfl), (h c).2.1.trans (by unfold rscale rmax refMat gsum; rfl),
    (h c).2.2.1.trans (by unfold Cert.ReferenceIdeal.Value.res_main_v49 rerr unlo unhi rcodes rq rscale rmax refMat gsum; rfl), (h c).2.2.2⟩) (Cert.ReferenceIdeal.Value.run m ρ)

end Cert.ReferenceIdeal.Hand

end
-- ==== Proof.Link.lean ====
/-
  The kernel's three results, over the extended reals, are the reference's.
-/
module

public import proofs.«01_k».proof.Proof.Accum
public import proofs.«01_k».proof.Proof.Final
public import proofs.«01_k».proof.Proof.Group
public import proofs.«01_k».proof.Proof.RefVal

@[expose] public section

set_option maxRecDepth 8000

noncomputable section

namespace Cert.KernelIdeal.Hand

open Cert.KernelIdeal Cert.KernelIdeal.Gen
open Idealize.ShloMosaic Idealize.ShloMosaic.TcCoe Quant
open Cert.ReferenceIdeal.Hand (grpOf rscale rcodes rerr rscale_at rcodes_at rerr_at)

variable (m : (ℓ : Loc nD τ sig) → Buf (Elt Ideal) ℓ) (c : Dev nD)

/-- A row of a chunk of a block's accumulator is a group of a row of the gradient with its error. -/
theorem row_eq (b : ℕ) (hb : b < 8) (k : Fin 40) (q : Fin 20) (r : Fin 32) (R : Fin 5120) (C : Fin 40)
    (hR : R.val = 1280 * (b / 2) + (32 * k.val + r.val)) (hC : C.val = 20 * (b % 2) + q.val) :
    rowOf (grp (accOf m c b) k q) r = grpOf (VAL m c) R C := by
  funext l
  show accOf m c b (ix2 (⟨32 * k.val + r.val, by omega⟩ : Fin 1280) (⟨128 * q.val + l.val, by omega⟩ : Fin 2560)) = VAL m c (ix2 R (⟨C.val * 128 + l.val, by omega⟩ : Fin 5120))
  rw [accOf_at m c b hb]
  refine congrArg (VAL m c) (congrArg₂ ix2 (Fin.ext ?_) (Fin.ext ?_))
  · show 1280 * (b / 2) + (32 * k.val + r.val) = R.val; omega
  · show 2560 * (b % 2) + (128 * q.val + l.val) = C.val * 128 + l.val; omega

/-- The scales are the reference's. -/
theorem scales_eq : scalesOut m c = rscale (VAL m c) := by
  funext j
  idx_vars j
  rw [rscale_at]
  show k0_pay3 (grp (accOf m c (2 * (j0.val / 1280) + j1.val / 20)) ⟨j0.val % 1280 / 32, by omega⟩ ⟨j1.val % 20, Nat.mod_lt _ (by decide)⟩)
    (ix2 ⟨j0.val % 1280 % 32, Nat.mod_lt _ (by decide)⟩ (0 : Fin 1)) = _
  rw [pay3_at]
  refine congrArg gsc (row_eq m c _ ?_ _ _ _ _ _ ?_ ?_)
  · omega
  · show j0.val = 1280 * ((2 * (j0.val / 1280) + j1.val / 20) / 2) + (32 * (j0.val % 1280 / 32) + j0.val % 1280 % 32); omega
  · show j1.val = 20 * ((2 * (j0.val / 1280) + j1.val / 20) % 2) + j1.val % 20; omega

/-- The new error is the reference's. -/
theorem nerr_eq : nerrOut m c = rerr (VAL m c) := by
  funext j
  idx_vars j
  have hj : (ix2 j0 j1 : S5120x5120.Idx) = ix2 j0 (⟨(⟨j1.val / 128, by omega⟩ : Fin 40).val * 128 + (⟨j1.val % 128, Nat.mod_lt _ (by decide)⟩ : Fin 128).val, by show j1.val / 128 * 128 + j1.val % 128 < 5120; omega⟩ : Fin 5120) :=
    congrArg (ix2 j0) (Fin.ext (by show j1.val = j1.val / 128 * 128 + j1.val % 128; omega))
  refine Eq.trans ?_ ((rerr_at (VAL m c) j0 (⟨j1.val / 128, by omega⟩ : Fin 40) (⟨j1.val % 128, Nat.mod_lt _ (by decide)⟩ : Fin 128)).symm.trans (congrArg (rerr (VAL m c)) hj.symm))
  show k0_pay5 (grp (accOf m c (2 * (j0.val / 1280) + j1.val / 2560)) ⟨j0.val % 1280 / 32, by omega⟩ ⟨j1.val % 2560 / 128, by omega⟩)
    (ix3 (0 : Fin 1) ⟨j0.val % 1280 % 32, Nat.mod_lt _ (by decide)⟩ ⟨j1.val % 2560 % 128, Nat.mod_lt _ (by decide)⟩) = _
  rw [pay5_at, row_eq m c _ (by omega) _ _ _ j0 (⟨j1.val / 128, by omega⟩ : Fin 40)
    (by show j0.val = 1280 * ((2 * (j0.val / 1280) + j1.val / 2560) / 2) + (32 * (j0.val % 1280 / 32) + j0.val % 1280 % 32); omega)
    (by show j1.val / 128 = 20 * ((2 * (j0.val / 1280) + j1.val / 2560) % 2) + j1.val % 2560 / 128; omega)]
  have el : (⟨j1.val % 2560 % 128, Nat.mod_lt _ (by decide)⟩ : Fin 128) = ⟨j1.val % 128, Nat.mod_lt _ (by decide)⟩ := Fin.ext (by show j1.val % 2560 % 128 = j1.val % 128; omega)
  rw [el]

/-- A byte of packed codes of two chunks, given the group the byte's chunk is. -/
theorem codesC_of (va vb : Vec Ideal S1x32x128 .f32) (r : Fin 32) (l : Fin 128) (f : Fin 128 → Ideal .f32) (k : Fin 64) (hk : k.val = l.val % 64)
    (h0 : l.val < 64 → rowOf va r = f) (h1 : ¬ l.val < 64 → rowOf vb r = f) :
    codesC va vb (ix2 r l) = byte (qw (f ⟨2 * k.val, by omega⟩) (gsc f)) (qw (f ⟨2 * k.val + 1, by omega⟩) (gsc f)) := by
  have e0 : (⟨2 * (l.val % 64), by omega⟩ : Fin 128) = ⟨2 * k.val, by omega⟩ := Fin.ext (by show 2 * (l.val % 64) = 2 * k.val; omega)
  have e1 : (⟨2 * (l.val % 64) + 1, by omega⟩ : Fin 128) = ⟨2 * k.val + 1, by omega⟩ := Fin.ext (by show 2 * (l.val % 64) + 1 = 2 * k.val + 1; omega)
  rw [codesC_at, e0, e1]
  by_cases h : l.val < 64
  · rw [if_pos h, h0 h]
  · rw [if_neg h, h1 h]

/-- A byte of the kernel's packed codes, by the group it comes from. -/
theorem codesOut_at (r : Fin 5120) (y : Fin 2560) (C : Fin 40) (k : Fin 64) (hy : y.val = C.val * 64 + k.val) :
    codesOut m c (ix2 r y) = byte (qw (grpOf (VAL m c) r C ⟨2 * k.val, by omega⟩) (gsc (grpOf (VAL m c) r C))) (qw (grpOf (VAL m c) r C ⟨2 * k.val + 1, by omega⟩) (gsc (grpOf (VAL m c) r C))) := by
  have hR : r.val = 1280 * ((2 * (r.val / 1280) + y.val / 1280) / 2) + (32 * (r.val % 1280 / 32) + r.val % 1280 % 32) := by omega
  unfold codesOut CODE
  refine codesC_of (grp (accOf m c (2 * (r.val / 1280) + y.val / 1280)) ⟨r.val % 1280 / 32, by omega⟩ ⟨2 * (y.val % 1280 / 128), by omega⟩)
    (grp (accOf m c (2 * (r.val / 1280) + y.val / 1280)) ⟨r.val % 1280 / 32, by omega⟩ ⟨2 * (y.val % 1280 / 128) + 1, by omega⟩)
    ⟨r.val % 1280 % 32, Nat.mod_lt _ (by decide)⟩ ⟨y.val % 1280 % 128, Nat.mod_lt _ (by decide)⟩ (grpOf (VAL m c) r C) k ?_ (fun h => ?_) (fun h => ?_)
  · show k.val = y.val % 1280 % 128 % 64; omega
  · have h' : y.val % 1280 % 128 < 64 := h
    exact row_eq m c _ (by omega) _ _ _ r C hR (by show C.val = 20 * ((2 * (r.val / 1280) + y.val / 1280) % 2) + 2 * (y.val % 1280 / 128); omega)
  · have h' : ¬ y.val % 1280 % 128 < 64 := h
    exact row_eq m c _ (by omega) _ _ _ r C hR (by show C.val = 20 * ((2 * (r.val / 1280) + y.val / 1280) % 2) + (2 * (y.val % 1280 / 128) + 1); omega)

/-- A byte of the reference's packed codes, by the group it comes from. -/
theorem rcodes_at' (v : Cert.ReferenceIdeal.Hand.Mat) (r : Fin 5120) (y : Fin 2560) (C : Fin 40) (k : Fin 64) (hy : y.val = C.val * 64 + k.val) :
    rcodes v (ix2 r y) = byte (qw (grpOf v r C ⟨2 * k.val, by omega⟩) (gsc (grpOf v r C))) (qw (grpOf v r C ⟨2 * k.val + 1, by omega⟩) (gsc (grpOf v r C))) := by
  rw [show y = (⟨C.val * 64 + k.val, by omega⟩ : Fin 2560) from Fin.ext hy]
  exact rcodes_at v r C k

/-- The packed codes are the reference's. -/
theorem codes_eq : codesOut m c = rcodes (VAL m c) := by
  funext j
  idx_vars j
  have hk : j1.val = (⟨j1.val / 64, by omega⟩ : Fin 40).val * 64 + (⟨j1.val % 64, Nat.mod_lt _ (by decide)⟩ : Fin 64).val := by
    show j1.val = j1.val / 64 * 64 + j1.val % 64; omega
  exact (codesOut_at m c j0 j1 _ _ hk).trans (rcodes_at' (VAL m c) j0 j1 _ _ hk).symm

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Transfer
public import proofs.«01_k».proof.Proof.Link
public import Idealize.ShloMosaic.Adequacy
public import Idealize.ShloMosaic.Init

@[expose] public section

noncomputable section

namespace Cert.Proof

open Idealize.ShloMosaic Idealize.SL.Sem

/-- The program as printed runs, its arguments unchanged, every semaphore back at zero. -/
theorem frame_kernel : Cert.quiescent_Kernel (hKernel := Cert.Kernel.Gen.facts) :=
  fun m g _ => Cert.Kernel.Hand.frame m g

/-- So does its idealization. -/
theorem frame_kernelIdeal : Cert.quiescent_KernelIdeal (hKernelIdeal := Cert.KernelIdeal.Gen.facts) :=
  fun m g _ => Cert.KernelIdeal.Hand.frame m g

/-- So does the reference, which has no semaphore. -/
theorem frame_referenceIdeal : Cert.quiescent_ReferenceIdeal (hReferenceIdeal := Cert.ReferenceIdeal.Gen.facts) :=
  fun m g _ => (θ_run Cert.ReferenceIdeal.defs _ _).mono
    (fun _ h => ⟨fun c => (h c).2.2.2, sem_eq_zero_of_no_sems (by decide) _⟩) (Cert.ReferenceIdeal.Value.run m g)

/-- The two matrices agree where the arguments do. -/
theorem mat_eq (m : (ℓ : Loc Cert.KernelIdeal.nD Cert.KernelIdeal.τ Cert.KernelIdeal.sig) → Buf (Elt Ideal) ℓ) (c : Dev Cert.KernelIdeal.nD)
    (x d : FVec Ideal Cert.ReferenceIdeal.S38912x5120 .bf16) (e : Cert.ReferenceIdeal.Hand.Mat)
    (hx : x = Cert.KernelIdeal.Hand.xA m c) (hd : d = Cert.KernelIdeal.Hand.dA m c) (he : e = Cert.KernelIdeal.Hand.eA m c) :
    Cert.ReferenceIdeal.Hand.gsum x d e = Cert.KernelIdeal.Hand.VAL m c := by
  subst hx hd he
  funext j
  idx_vars j
  exact Cert.ReferenceIdeal.Hand.gsum_at _ _ _ j0 j1

/-- Over the extended reals the kernel and the reference end with equal codes, scales and new error. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.KernelIdeal.Hand.codesOut m c, fun c => Cert.KernelIdeal.Hand.scalesOut m c, fun c => Cert.KernelIdeal.Hand.nerrOut m c,
    Cert.KernelIdeal.Hand.run_value m g, (θ_run Cert.ReferenceIdeal.defs _ _).mono (fun r h c => ?_) (Cert.ReferenceIdeal.Hand.run_value m' g')⟩
  have hm : Cert.ReferenceIdeal.Hand.refMat m' c = Cert.KernelIdeal.Hand.VAL m c := mat_eq m c _ _ _ (hag c).1 (hag c).2.1 (hag c).2.2
  refine ⟨(h c).1.trans ?_, (h c).2.1.trans ?_, (h c).2.2.1.trans ?_, (h c).2.2.2⟩
  · rw [hm]; exact (Cert.KernelIdeal.Hand.codes_eq m c).symm
  · rw [hm]; exact (Cert.KernelIdeal.Hand.scales_eq m c).symm
  · rw [hm]; exact (Cert.KernelIdeal.Hand.nerr_eq m c).symm

theorem claim : Cert.Claim :=
  ⟨Cert.Kernel.Gen.facts, Cert.KernelIdeal.Gen.facts, Cert.ReferenceIdeal.Gen.facts, frame_kernel, frame_kernelIdeal, frame_referenceIdeal, trivial, algebraic⟩

end Cert.Proof

end
